-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v172) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_v174) = v5 c
          ∧ r.2.mem ((c.tc : Thread Cert.ReferenceIdeal.nD Cert.ReferenceIdeal.τ).loc Cert.ReferenceIdeal.main_v104) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S8x16x32 : Shape := ⟨3, ![8, 16, 32]⟩
abbrev S1x2048x128 : Shape := ⟨3, ![1, 2048, 128]⟩
abbrev S1x256x128 : Shape := ⟨3, ![1, 256, 128]⟩
abbrev S1x16x32 : Shape := ⟨3, ![1, 16, 32]⟩
abbrev S128x2048 : Shape := ⟨2, ![128, 2048]⟩
abbrev S16x128 : Shape := ⟨2, ![16, 128]⟩
abbrev S2048x256 : Shape := ⟨2, ![2048, 256]⟩
abbrev S128x256 : Shape := ⟨2, ![128, 256]⟩
abbrev S2048x128 : Shape := ⟨2, ![2048, 128]⟩
abbrev S16x128x128 : Shape := ⟨3, ![16, 128, 128]⟩
abbrev S16 : Shape := ⟨1, ![16]⟩
abbrev S16x1 : Shape := ⟨2, ![16, 1]⟩
abbrev S16x1x1 : Shape := ⟨3, ![16, 1, 1]⟩
abbrev S16x32 : Shape := ⟨2, ![16, 32]⟩
abbrev S256x128 : Shape := ⟨2, ![256, 128]⟩
abbrev S1x128 : Shape := ⟨2, ![1, 128]⟩
abbrev S1x256 : Shape := ⟨2, ![1, 256]⟩
abbrev S16x256 : Shape := ⟨2, ![16, 256]⟩
abbrev S16x128x256 : Shape := ⟨3, ![16, 128, 256]⟩
abbrev S256 : Shape := ⟨1, ![256]⟩
abbrev S128x128 : Shape := ⟨2, ![128, 128]⟩

abbrev nBuf : Space → Nat
  | .hbm => 10
  | .vmem => 26
  | .smem => 0
  | _ => 0

abbrev bufTy : (tb : Table) → Fin (tcTables nBuf tb) → BufTy
  | .hbm, ⟨0, _⟩ => ⟨S8x2048x4096, .bf16⟩
  | .hbm, ⟨1, _⟩ => ⟨S8x2048x4096, .bf16⟩
  | .hbm, ⟨2, _⟩ => ⟨S8x2048x4096, .bf16⟩
  | .hbm, ⟨3, _⟩ => ⟨S8x2048x4096, .bf16⟩
  | .hbm, ⟨4, _⟩ => ⟨S8x2048x4096, .fp8e4m3⟩
  | .hbm, ⟨5, _⟩ => ⟨S8x16x32, .f32⟩
  | .hbm, ⟨6, _⟩ => ⟨S8x2048x4096, .fp8e4m3⟩
  | .hbm, ⟨7, _⟩ => ⟨S8x16x32, .f32⟩
  | .hbm, ⟨8, _⟩ => ⟨S8x2048x4096, .fp8e4m3⟩
  | .hbm, ⟨9, _⟩ => ⟨S8x16x32, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x2048x128, .fp8e4m3⟩
  | .local _ .vmem, ⟨9, _⟩ => ⟨S1x2048x128, .fp8e4m3⟩
  | .local _ .vmem, ⟨10, _⟩ => ⟨S1x16x32, .f32⟩
  | .local _ .vmem, ⟨11, _⟩ => ⟨S1x16x32, .f32⟩
  | .local _ .vmem, ⟨12, _⟩ => ⟨S1x2048x128, .fp8e4m3⟩
  | .local _ .vmem, ⟨13, _⟩ => ⟨S1x2048x128, .fp8e4m3⟩
  | .local _ .vmem, ⟨14, _⟩ => ⟨S1x16x32, .f32⟩
  | .local _ .vmem, ⟨15, _⟩ => ⟨S1x16x32, .f32⟩
  | .local _ .vmem, ⟨16, _⟩ => ⟨S1x2048x128, .fp8e4m3⟩
  | .local _ .vmem, ⟨17, _⟩ => ⟨S1x2048x128, .fp8e4m3⟩
  | .local _ .vmem, ⟨18, _⟩ => ⟨S1x16x32, .f32⟩
  | .local _ .vmem, ⟨19, _⟩ => ⟨S1x16x32, .f32⟩
  | .local _ .vmem, ⟨20, _⟩ => ⟨S128x2048, .fp8e4m3⟩
  | .local _ .vmem, ⟨21, _⟩ => ⟨S16x128, .f32⟩
  | .local _ .vmem, ⟨22, _⟩ => ⟨S16x128, .f32⟩
  | .local _ .vmem, ⟨23, _⟩ => ⟨S16x128, .f32⟩
  | .local _ .vmem, ⟨24, _⟩ => ⟨S2048x256, .f32⟩
  | .local _ .vmem, ⟨25, _⟩ => ⟨S128x256, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 32, 8], ![false, false, false]⟩

def k0_off1 (i : grid0.Coords) : Fin 3 → Nat :=
  let c0 : Index := 0#32
  let arg2 : BitVec 32 := BitVec.ofNat 32 (i 2).val
  let c256_i32 : BitVec 32 := 256#32
  let v3 : BitVec 32 := Scalar.muli arg2 c256_i32
  let v4 : Index := Scalar.indexCast v3
  let c0_1 : Index := 0#32
  ![0, v4.toNat, 0]
def k0_off2 (i : grid0.Coords) (c0_i32_7 : BitVec 32) : Fin 2 → Nat :=
  let arg2 : BitVec 32 := BitVec.ofNat 32 (i 2).val
  let c2_i32 : BitVec 32 := 2#32
  let v13 : BitVec 32 := Scalar.muli arg2 c2_i32
  let v14 : BitVec 32 := Scalar.addi v13 c0_i32_7
  let v15 : Index := Scalar.indexCast v14
  let c0_8 : Index := 0#32
  ![v15.toNat, 0]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x16x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x16x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x2048x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x16x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferenceIdeal.lean ====
abbrev S8x2048x4096 : Shape := ⟨3, ![8, 2048, 4096]⟩
abbrev S8x16x128x32x128 : Shape := ⟨5, ![8, 16, 128, 32, 128]⟩
abbrev S_ : Shape := ⟨0, ![]⟩
abbrev S8x16x32 : Shape := ⟨3, ![8, 16, 32]⟩
abbrev S8x16x1x32x1 : Shape := ⟨5, ![8, 16, 1, 32, 1]⟩
abbrev S253 : Shape := ⟨1, ![253]⟩
abbrev S8x16x1x32x1x1 : Shape := ⟨6, ![8, 16, 1, 32, 1, 1]⟩
abbrev S1x1x1x1x1x253 : Shape := ⟨6, ![1, 1, 1, 1, 1, 253]⟩
abbrev S8x16x1x32x1x253 : Shape := ⟨6, ![8, 16, 1, 32, 1, 253]⟩
abbrev S8x32x16x128x16x128 : Shape := ⟨6, ![8, 32, 16, 128, 16, 128]⟩
abbrev S8x32x16 : Shape := ⟨3, ![8, 32, 16]⟩
abbrev S8x32x16x1x1x1 : Shape := ⟨6, ![8, 32, 16, 1, 1, 1]⟩
abbrev S8x32x1x1x16x1 : Shape := ⟨6, ![8, 32, 1, 1, 16, 1]⟩
abbrev S8x32x16x128 : Shape := ⟨4, ![8, 32, 16, 128]⟩
abbrev S8x32x16x128x1x1 : Shape := ⟨6, ![8, 32, 16, 128, 1, 1]⟩
abbrev S8x32x16x128x16 : Shape := ⟨5, ![8, 32, 16, 128, 16]⟩
abbrev S8x32x16x128x16x1 : Shape := ⟨6, ![8, 32, 16, 128, 16, 1]⟩
abbrev S8x32x16x128x16x1x1 : Shape := ⟨7, ![8, 32, 16, 128, 16, 1, 1]⟩
abbrev S1x1x1x1x1x1x253 : Shape := ⟨7, ![1, 1, 1, 1, 1, 1, 253]⟩
abbrev S8x32x16x128x16x1x253 : Shape := ⟨7, ![8, 32, 16, 128, 16, 1, 253]⟩
abbrev S8x32x16x128x128 : Shape := ⟨5, ![8, 32, 16, 128, 128]⟩
abbrev S8x32x16x128x1 : Shape := ⟨5, ![8, 32, 16, 128, 1]⟩

abbrev nBuf : Space → Nat
  | .hbm => 286
  | .vmem => 0
  | .smem => 0
  | _ => 0

abbrev hbmTy0_0 (i : Nat) : BufTy := match i % 128 with
  | 0 => ⟨S8x2048x4096, .bf16⟩
  | 1 => ⟨S8x2048x4096, .bf16⟩
  | 2 => ⟨S8x2048x4096, .bf16⟩
  | 3 => ⟨S8x2048x4096, .f32⟩
  | 4 => ⟨S8x16x128x32x128, .f32⟩
  | 5 => ⟨S8x16x128x32x128, .f32⟩
  | 6 => ⟨S_, .f32⟩
  | 7 => ⟨S8x16x32, .f32⟩
  | 8 => ⟨S8x16x1x32x1, .f32⟩
  | 9 => ⟨S_, .f32⟩
  | 10 => ⟨S8x16x1x32x1, .f32⟩
  | 11 => ⟨S8x16x1x32x1, .f32⟩
  | 12 => ⟨S253, .i32⟩
  | 13 => ⟨S_, .i32⟩
  | 14 => ⟨S253, .i32⟩
  | 15 => ⟨S253, .i32⟩
  | 16 => ⟨S253, .f32⟩
  | 17 => ⟨S_, .f32⟩
  | 18 => ⟨S253, .f32⟩
  | 19 => ⟨S253, .f32⟩
  | 20 => ⟨S8x16x1x32x1x1, .f32⟩
  | 21 => ⟨S1x1x1x1x1x253, .f32⟩
  | 22 => ⟨S8x16x1x32x1x253, .f32⟩
  | 23 => ⟨S8x16x1x32x1x253, .f32⟩
  | 24 => ⟨S8x16x1x32x1x253, .i1⟩
  | 25 => ⟨S_, .f32⟩
  | 26 => ⟨S_, .f32⟩
  | 27 => ⟨S8x16x1x32x1x253, .f32⟩
  | 28 => ⟨S8x16x1x32x1x253, .f32⟩
  | 29 => ⟨S8x16x1x32x1x253, .f32⟩
  | 30 => ⟨S_, .f32⟩
  | 31 => ⟨S8x16x1x32x1, .f32⟩
  | 32 => ⟨S_, .f32⟩
  | 33 => ⟨S8x16x1x32x1, .f32⟩
  | 34 => ⟨S8x16x1x32x1, .i1⟩
  | 35 => ⟨S_, .f32⟩
  | 36 => ⟨S8x16x1x32x1, .f32⟩
  | 37 => ⟨S8x16x1x32x1, .i1⟩
  | 38 => ⟨S8x16x1x32x1, .i1⟩
  | 39 => ⟨S_, .f32⟩
  | 40 => ⟨S_, .f32⟩
  | 41 => ⟨S8x16x1x32x1, .f32⟩
  | 42 => ⟨S8x16x1x32x1, .f32⟩
  | 43 => ⟨S_, .f32⟩
  | 44 => ⟨S8x16x1x32x1, .f32⟩
  | 45 => ⟨S8x16x1x32x1, .i1⟩
  | 46 => ⟨S_, .f32⟩
  | 47 => ⟨S8x16x1x32x1, .f32⟩
  | 48 => ⟨S8x16x1x32x1, .f32⟩
  | 49 => ⟨S_, .f32⟩
  | 50 => ⟨S_, .f32⟩
  | 51 => ⟨S8x16x1x32x1, .f32⟩
  | 52 => ⟨S8x16x1x32x1, .f32⟩
  | 53 => ⟨S8x16x128x32x128, .f32⟩
  | 54 => ⟨S8x16x128x32x128, .f32⟩
  | 55 => ⟨S_, .f32⟩
  | 56 => ⟨S_, .f32⟩
  | 57 => ⟨S_, .f32⟩
  | 58 => ⟨S8x16x128x32x128, .f32⟩
  | 59 => ⟨S8x16x128x32x128, .f32⟩
  | 60 => ⟨S_, .f32⟩
  | 61 => ⟨S8x16x128x32x128, .f32⟩
  | 62 => ⟨S8x16x128x32x128, .f32⟩
  | 63 => ⟨S8x2048x4096, .f32⟩
  | 64 => ⟨S8x16x128x32x128, .f32⟩
  | 65 => ⟨S8x16x128x32x128, .f32⟩
  | 66 => ⟨S_, .f32⟩
  | 67 => ⟨S8x16x32, .f32⟩
  | 68 => ⟨S8x16x1x32x1, .f32⟩
  | 69 => ⟨S_, .f32⟩
  | 70 => ⟨S8x16x1x32x1, .f32⟩
  | 71 => ⟨S8x16x1x32x1, .f32⟩
  | 72 => ⟨S253, .i32⟩
  | 73 => ⟨S_, .i32⟩
  | 74 => ⟨S253, .i32⟩
  | 75 => ⟨S253, .i32⟩
  | 76 => ⟨S253, .f32⟩
  | 77 => ⟨S_, .f32⟩
  | 78 => ⟨S253, .f32⟩
  | 79 => ⟨S253, .f32⟩
  | 80 => ⟨S8x16x1x32x1x1, .f32⟩
  | 81 => ⟨S1x1x1x1x1x253, .f32⟩
  | 82 => ⟨S8x16x1x32x1x253, .f32⟩
  | 83 => ⟨S8x16x1x32x1x253, .f32⟩
  | 84 => ⟨S8x16x1x32x1x253, .i1⟩
  | 85 => ⟨S_, .f32⟩
  | 86 => ⟨S_, .f32⟩
  | 87 => ⟨S8x16x1x32x1x253, .f32⟩
  | 88 => ⟨S8x16x1x32x1x253, .f32⟩
  | 89 => ⟨S8x16x1x32x1x253, .f32⟩
  | 90 => ⟨S_, .f32⟩
  | 91 => ⟨S8x16x1x32x1, .f32⟩
  | 92 => ⟨S_, .f32⟩
  | 93 => ⟨S8x16x1x32x1, .f32⟩
  | 94 => ⟨S8x16x1x32x1, .i1⟩
  | 95 => ⟨S_, .f32⟩
  | 96 => ⟨S8x16x1x32x1, .f32⟩
  | 97 => ⟨S8x16x1x32x1, .i1⟩
  | 98 => ⟨S8x16x1x32x1, .i1⟩
  | 99 => ⟨S_, .f32⟩
  | 100 => ⟨S_, .f32⟩
  | 101 => ⟨S8x16x1x32x1, .f32⟩
  | 102 => ⟨S8x16x1x32x1, .f32⟩
  | 103 => ⟨S_, .f32⟩
  | 104 => ⟨S8x16x1x32x1, .f32⟩
  | 105 => ⟨S8x16x1x32x1, .i1⟩
  | 106 => ⟨S_, .f32⟩
  | 107 => ⟨S8x16x1x32x1, .f32⟩
  | 108 => ⟨S8x16x1x32x1, .f32⟩
  | 109 => ⟨S_, .f32⟩
  | 110 => ⟨S_, .f32⟩
  | 111 => ⟨S8x16x1x32x1, .f32⟩
  | 112 => ⟨S8x16x1x32x1, .f32⟩
  | 113 => ⟨S8x16x128x32x128, .f32⟩
  | 114 => ⟨S8x16x128x32x128, .f32⟩
  | 115 => ⟨S_, .f32⟩
  | 116 => ⟨S_, .f32⟩
  | 117 => ⟨S_, .f32⟩
  | 118 => ⟨S8x16x128x32x128, .f32⟩
  | 119 => ⟨S8x16x128x32x128, .f32⟩
  | 120 => ⟨S_, .f32⟩
  | 121 => ⟨S8x16x128x32x128, .f32⟩
  | 122 => ⟨S8x16x128x32x128, .f32⟩
  | 123 => ⟨S8x2048x4096, .f32⟩
  | 124 => ⟨S8x16x128x32x128, .f32⟩
  | 125 => ⟨S8x16x128x32x128, .f32⟩
  | 126 => ⟨S_, .f32⟩
  | 127 => ⟨S8x16x32, .f32⟩
  | _ => ⟨S8x2048x4096, .bf16⟩

abbrev hbmTy0_1 (i : Nat) : BufTy := match i % 128 with
  | 0 => ⟨S8x16x1x32x1, .f32⟩
  | 1 => ⟨S_, .f32⟩
  | 2 => ⟨S8x16x1x32x1, .f32⟩
  | 3 => ⟨S8x16x1x32x1, .f32⟩
  | 4 => ⟨S253, .i32⟩
  | 5 => ⟨S_, .i32⟩
  | 6 => ⟨S253, .i32⟩
  | 7 => ⟨S253, .i32⟩
  | 8 => ⟨S253, .f32⟩
  | 9 => ⟨S_, .f32⟩
  | 10 => ⟨S253, .f32⟩
  | 11 => ⟨S253, .f32⟩
  | 12 => ⟨S8x16x1x32x1x1, .f32⟩
  | 13 => ⟨S1x1x1x1x1x253, .f32⟩
  | 14 => ⟨S8x16x1x32x1x253, .f32⟩
  | 15 => ⟨S8x16x1x32x1x253, .f32⟩
  | 16 => ⟨S8x16x1x32x1x253, .i1⟩
  | 17 => ⟨S_, .f32⟩
  | 18 => ⟨S_, .f32⟩
  | 19 => ⟨S8x16x1x32x1x253, .f32⟩
  | 20 => ⟨S8x16x1x32x1x253, .f32⟩
  | 21 => ⟨S8x16x1x32x1x253, .f32⟩
  | 22 => ⟨S_, .f32⟩
  | 23 => ⟨S8x16x1x32x1, .f32⟩
  | 24 => ⟨S_, .f32⟩
  | 25 => ⟨S8x16x1x32x1, .f32⟩
  | 26 => ⟨S8x16x1x32x1, .i1⟩
  | 27 => ⟨S_, .f32⟩
  | 28 => ⟨S8x16x1x32x1, .f32⟩
  | 29 => ⟨S8x16x1x32x1, .i1⟩
  | 30 => ⟨S8x16x1x32x1, .i1⟩
  | 31 => ⟨S_, .f32⟩
  | 32 => ⟨S_, .f32⟩
  | 33 => ⟨S8x16x1x32x1, .f32⟩
  | 34 => ⟨S8x16x1x32x1, .f32⟩
  | 35 => ⟨S_, .f32⟩
  | 36 => ⟨S8x16x1x32x1, .f32⟩
  | 37 => ⟨S8x16x1x32x1, .i1⟩
  | 38 => ⟨S_, .f32⟩
  | 39 => ⟨S8x16x1x32x1, .f32⟩
  | 40 => ⟨S8x16x1x32x1, .f32⟩
  | 41 => ⟨S_, .f32⟩
  | 42 => ⟨S_, .f32⟩
  | 43 => ⟨S8x16x1x32x1, .f32⟩
  | 44 => ⟨S8x16x1x32x1, .f32⟩
  | 45 => ⟨S8x16x128x32x128, .f32⟩
  | 46 => ⟨S8x16x128x32x128, .f32⟩
  | 47 => ⟨S_, .f32⟩
  | 48 => ⟨S_, .f32⟩
  | 49 => ⟨S_, .f32⟩
  | 50 => ⟨S8x16x128x32x128, .f32⟩
  | 51 => ⟨S8x16x128x32x128, .f32⟩
  | 52 => ⟨S_, .f32⟩
  | 53 => ⟨S8x16x128x32x128, .f32⟩
  | 54 => ⟨S8x16x128x32x128, .f32⟩
  | 55 => ⟨S8x16x32, .f32⟩
  | 56 => ⟨S8x16x32, .f32⟩
  | 57 => ⟨S8x16x32, .f32⟩
  | 58 => ⟨S8x32x16x128x16x128, .f32⟩
  | 59 => ⟨S8x32x16, .f32⟩
  | 60 => ⟨S8x32x16x1x1x1, .f32⟩
  | 61 => ⟨S8x32x16, .f32⟩
  | 62 => ⟨S8x32x1x1x16x1, .f32⟩
  | 63 => ⟨S8x32x16, .f32⟩
  | 64 => ⟨S8x32x1x1x16x1, .f32⟩
  | 65 => ⟨S_, .f32⟩
  | 66 => ⟨S8x32x16x1x1x1, .f32⟩
  | 67 => ⟨S8x32x16x1x1x1, .f32⟩
  | 68 => ⟨S8x32x16x128x16x128, .f32⟩
  | 69 => ⟨S8x32x16x128x16x128, .f32⟩
  | 70 => ⟨S8x32x16x128x16x128, .f32⟩
  | 71 => ⟨S8x32x16x128x16x128, .f32⟩
  | 72 => ⟨S_, .f32⟩
  | 73 => ⟨S8x32x16x128, .f32⟩
  | 74 => ⟨S8x32x16x128x1x1, .f32⟩
  | 75 => ⟨S8x32x16x128x16x128, .f32⟩
  | 76 => ⟨S8x32x16x128x16x128, .f32⟩
  | 77 => ⟨S8x32x16x128x16x128, .f32⟩
  | 78 => ⟨S_, .f32⟩
  | 79 => ⟨S8x32x16x128, .f32⟩
  | 80 => ⟨S8x32x16x128x16x128, .f32⟩
  | 81 => ⟨S_, .f32⟩
  | 82 => ⟨S8x32x16x128x16, .f32⟩
  | 83 => ⟨S8x32x16x128x16x1, .f32⟩
  | 84 => ⟨S_, .f32⟩
  | 85 => ⟨S8x32x16x128x16x1, .f32⟩
  | 86 => ⟨S8x32x16x128x16x1, .f32⟩
  | 87 => ⟨S253, .i32⟩
  | 88 => ⟨S_, .i32⟩
  | 89 => ⟨S253, .i32⟩
  | 90 => ⟨S253, .i32⟩
  | 91 => ⟨S253, .f32⟩
  | 92 => ⟨S_, .f32⟩
  | 93 => ⟨S253, .f32⟩
  | 94 => ⟨S253, .f32⟩
  | 95 => ⟨S8x32x16x128x16x1x1, .f32⟩
  | 96 => ⟨S1x1x1x1x1x1x253, .f32⟩
  | 97 => ⟨S8x32x16x128x16x1x253, .f32⟩
  | 98 => ⟨S8x32x16x128x16x1x253, .f32⟩
  | 99 => ⟨S8x32x16x128x16x1x253, .i1⟩
  | 100 => ⟨S_, .f32⟩
  | 101 => ⟨S_, .f32⟩
  | 102 => ⟨S8x32x16x128x16x1x253, .f32⟩
  | 103 => ⟨S8x32x16x128x16x1x253, .f32⟩
  | 104 => ⟨S8x32x16x128x16x1x253, .f32⟩
  | 105 => ⟨S_, .f32⟩
  | 106 => ⟨S8x32x16x128x16x1, .f32⟩
  | 107 => ⟨S_, .f32⟩
  | 108 => ⟨S8x32x16x128x16x1, .f32⟩
  | 109 => ⟨S8x32x16x128x16x1, .i1⟩
  | 110 => ⟨S_, .f32⟩
  | 111 => ⟨S8x32x16x128x16x1, .f32⟩
  | 112 => ⟨S8x32x16x128x16x1, .i1⟩
  | 113 => ⟨S8x32x16x128x16x1, .i1⟩
  | 114 => ⟨S_, .f32⟩
  | 115 => ⟨S_, .f32⟩
  | 116 => ⟨S8x32x16x128x16x1, .f32⟩
  | 117 => ⟨S8x32x16x128x16x1, .f32⟩
  | 118 => ⟨S_, .f32⟩
  | 119 => ⟨S8x32x16x128x16x1, .f32⟩
  | 120 => ⟨S8x32x16x128x16x1, .i1⟩
  | 121 => ⟨S_, .f32⟩
  | 122 => ⟨S8x32x16x128x16x1, .f32⟩
  | 123 => ⟨S8x32x16x128x16x1, .f32⟩
  | 124 => ⟨S_, .f32⟩
  | 125 => ⟨S_, .f32⟩
  | 126 => ⟨S8x32x16x128x16x1, .f32⟩
  | 127 => ⟨S8x32x16x128x16x1, .f32⟩
  | _ => ⟨S8x2048x4096, .bf16⟩

abbrev hbmTy0_2 (i : Nat) : BufTy := match i % 128 with
  | 0 => ⟨S8x32x16x128x16x128, .f32⟩
  | 1 => ⟨S8x32x16x128x16x128, .f32⟩
  | 2 => ⟨S_, .f32⟩
  | 3 => ⟨S_, .f32⟩
  | 4 => ⟨S_, .f32⟩
  | 5 => ⟨S8x32x16x128x16x128, .f32⟩
  | 6 => ⟨S8x32x16x128x16x128, .f32⟩
  | 7 => ⟨S_, .f32⟩
  | 8 => ⟨S8x32x16x128x16x128, .f32⟩
  | 9 => ⟨S8x32x16x128x16x128, .f32⟩
  | 10 => ⟨S8x32x16x128x16x128, .f32⟩
  | 11 => ⟨S8x32x16x128x16x128, .f32⟩
  | 12 => ⟨S8x32x16x128x16x1, .f32⟩
  | 13 => ⟨S8x32x16x128x16x1, .f32⟩
  | 14 => ⟨S8x32x16x128x16x128, .f32⟩
  | 15 => ⟨S8x32x16x128x16x128, .f32⟩
  | 16 => ⟨S_, .f32⟩
  | 17 => ⟨S8x32x16x128x128, .f32⟩
  | 18 => ⟨S8x32x16x128x1, .f32⟩
  | 19 => ⟨S8x32x16x128x128, .f32⟩
  | 20 => ⟨S8x32x16x128x128, .f32⟩
  | 21 => ⟨S8x16x128x32x128, .f32⟩
  | 22 => ⟨S8x2048x4096, .f32⟩
  | 23 => ⟨S8x2048x4096, .bf16⟩
  | 24 => ⟨S8x2048x4096, .f32⟩
  | 25 => ⟨S8x2048x4096, .fp8e4m3⟩
  | 26 => ⟨S8x2048x4096, .f32⟩
  | 27 => ⟨S8x2048x4096, .fp8e4m3⟩
  | 28 => ⟨S8x2048x4096, .f32⟩
  | 29 => ⟨S8x2048x4096, .fp8e4m3⟩
  | _ => ⟨S8x2048x4096, .bf16⟩

abbrev hbmTy (i : Nat) : BufTy := match i / 128 with
  | 0 => hbmTy0_0 i
  | 1 => hbmTy0_1 i
  | 2 => hbmTy0_2 i
  | _ => ⟨S8x2048x4096, .bf16⟩

abbrev bufTy : (tb : Table) → Fin (tcTables nBuf tb) → BufTy
  | .hbm, ⟨i, _⟩ => hbmTy i
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_cst_11 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_12 : Ref sig .tc := ⟨.hbm, 66, rfl⟩
abbrev main_v37 : Ref sig .tc := ⟨.hbm, 67, rfl⟩
abbrev main_v38 : Ref sig .tc := ⟨.hbm, 68, rfl⟩
abbrev main_cst_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_14 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_15 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_16 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v52 : Ref sig .tc := ⟨.hbm, 89, rfl⟩
abbrev main_cst_17 : Ref sig .tc := ⟨.hbm, 90, rfl⟩
abbrev main_v53 : Ref sig .tc := ⟨.hbm, 91, rfl⟩
abbrev main_cst_18 : Ref sig .tc := ⟨.hbm, 92, rfl⟩
abbrev main_v54 : Ref sig .tc := ⟨.hbm, 93, rfl⟩
abbrev main_v55 : Ref sig .tc := ⟨.hbm, 94, rfl⟩
abbrev main_cst_19 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_20 : Ref sig .tc := ⟨.hbm, 99, rfl⟩
abbrev main_call5_v0 : Ref sig .tc := ⟨.hbm, 100, rfl⟩
abbrev main_call5_v1 : Ref sig .tc := ⟨.hbm, 101, rfl⟩
abbrev main_v59 : Ref sig .tc := ⟨.hbm, 102, rfl⟩
abbrev main_cst_21 : Ref sig .tc := ⟨.hbm, 103, rfl⟩
abbrev main_v60 : Ref sig .tc := ⟨.hbm, 104, rfl⟩
abbrev main_v61 : Ref sig .tc := ⟨.hbm, 105, rfl⟩
abbrev main_cst_22 : Ref sig .tc := ⟨.hbm, 106, rfl⟩
abbrev main_v62 : Ref sig .tc := ⟨.hbm, 107, rfl⟩
abbrev main_v63 : Ref sig .tc := ⟨.hbm, 108, rfl⟩
abbrev main_cst_23 : Ref sig .tc := ⟨.hbm, 109, rfl⟩
abbrev main_call6_v0 : Ref sig .tc := ⟨.hbm, 110, rfl⟩
abbrev main_call6_v1 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_24 : Ref sig .tc := ⟨.hbm, 115, rfl⟩
abbrev main_cst_25 : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_26 : Ref sig .tc := ⟨.hbm, 126, rfl⟩
abbrev main_v71 : Ref sig .tc := ⟨.hbm, 127, rfl⟩
abbrev main_v72 : Ref sig .tc := ⟨.hbm, 128, rfl⟩
abbrev main_cst_27 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_28 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_29 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_30 : Ref sig .tc := ⟨.hbm, 145, rfl⟩
abbrev main_call8_v0 : Ref sig .tc := ⟨.hbm, 146, rfl⟩
abbrev main_call8_v1 : Ref sig .tc := ⟨.hbm, 147, rfl⟩
abbrev main_call8_v2 : Ref sig .tc := ⟨.hbm, 148, rfl⟩
abbrev main_v86 : Ref sig .tc := ⟨.hbm, 149, rfl⟩
abbrev main_cst_31 : Ref sig .tc := ⟨.hbm, 150, rfl⟩
abbrev main_v87 : Ref sig .tc := ⟨.hbm, 151, rfl⟩
abbrev main_cst_32 : Ref sig .tc := ⟨.hbm, 152, rfl⟩
abbrev main_v88 : Ref sig .tc := ⟨.hbm, 153, rfl⟩
abbrev main_v89 : Ref sig .tc := ⟨.hbm, 154, rfl⟩
abbrev main_cst_33 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_cst_34 : Ref sig .tc := ⟨.hbm, 159, rfl⟩
abbrev main_call9_v0 : Ref sig .tc := ⟨.hbm, 160, rfl⟩
abbrev main_call9_v1 : Ref sig .tc := ⟨.hbm, 161, rfl⟩
abbrev main_v93 : Ref sig .tc := ⟨.hbm, 162, rfl⟩
abbrev main_cst_35 : Ref sig .tc := ⟨.hbm, 163, rfl⟩
abbrev main_v94 : Ref sig .tc := ⟨.hbm, 164, rfl⟩
abbrev main_v95 : Ref sig .tc := ⟨.hbm, 165, rfl⟩
abbrev main_cst_36 : Ref sig .tc := ⟨.hbm, 166, rfl⟩
abbrev main_v96 : Ref sig .tc := ⟨.hbm, 167, rfl⟩
abbrev main_v97 : Ref sig .tc := ⟨.hbm, 168, rfl⟩
abbrev main_cst_37 : Ref sig .tc := ⟨.hbm, 169, rfl⟩
abbrev main_call10_v0 : Ref sig .tc := ⟨.hbm, 170, rfl⟩
abbrev main_call10_v1 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_38 : Ref sig .tc := ⟨.hbm, 175, rfl⟩
abbrev main_cst_39 : Ref sig .tc := ⟨.hbm, 176, rfl⟩
abbrev main_call11_v0 : Ref sig .tc := ⟨.hbm, 177, rfl⟩
abbrev main_call11_v1 : Ref sig .tc := ⟨.hbm, 178, rfl⟩
abbrev main_call11_v2 : Ref sig .tc := ⟨.hbm, 179, rfl⟩
abbrev main_call11_v3 : Ref sig .tc := ⟨.hbm, 180, rfl⟩
abbrev main_call11_v4 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_cst_40 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_cst_41 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_cst_42 : Ref sig .tc := ⟨.hbm, 206, rfl⟩
abbrev main_v123 : Ref sig .tc := ⟨.hbm, 207, rfl⟩
abbrev main_v124 : Ref sig .tc := ⟨.hbm, 208, rfl⟩
abbrev main_cst_43 : Ref sig .tc := ⟨.hbm, 209, rfl⟩
abbrev main_v125 : Ref sig .tc := ⟨.hbm, 210, rfl⟩
abbrev main_v126 : Ref sig .tc := ⟨.hbm, 211, rfl⟩
abbrev main_cst_44 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_c_45 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_cst_46 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_cst_47 : Ref sig .tc := ⟨.hbm, 228, rfl⟩
abbrev main_call12_v0 : Ref sig .tc := ⟨.hbm, 229, rfl⟩
abbrev main_call12_v1 : Ref sig .tc := ⟨.hbm, 230, rfl⟩
abbrev main_call12_v2 : Ref sig .tc := ⟨.hbm, 231, rfl⟩
abbrev main_v140 : Ref sig .tc := ⟨.hbm, 232, rfl⟩
abbrev main_cst_48 : Ref sig .tc := ⟨.hbm, 233, rfl⟩
abbrev main_v141 : Ref sig .tc := ⟨.hbm, 234, rfl⟩
abbrev main_cst_49 : Ref sig .tc := ⟨.hbm, 235, rfl⟩
abbrev main_v142 : Ref sig .tc := ⟨.hbm, 236, rfl⟩
abbrev main_v143 : Ref sig .tc := ⟨.hbm, 237, rfl⟩
abbrev main_cst_50 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_cst_51 : Ref sig .tc := ⟨.hbm, 242, rfl⟩
abbrev main_call13_v0 : Ref sig .tc := ⟨.hbm, 243, rfl⟩
abbrev main_call13_v1 : Ref sig .tc := ⟨.hbm, 244, rfl⟩
abbrev main_v147 : Ref sig .tc := ⟨.hbm, 245, rfl⟩
abbrev main_cst_52 : Ref sig .tc := ⟨.hbm, 246, rfl⟩
abbrev main_v148 : Ref sig .tc := ⟨.hbm, 247, rfl⟩
abbrev main_v149 : Ref sig .tc := ⟨.hbm, 248, rfl⟩
abbrev main_cst_53 : Ref sig .tc := ⟨.hbm, 249, rfl⟩
abbrev main_v150 : Ref sig .tc := ⟨.hbm, 250, rfl⟩
abbrev main_v151 : Ref sig .tc := ⟨.hbm, 251, rfl⟩
abbrev main_cst_54 : Ref sig .tc := ⟨.hbm, 252, rfl⟩
abbrev main_call14_v0 : Ref sig .tc := ⟨.hbm, 253, rfl⟩
abbrev main_call14_v1 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_cst_55 : Ref sig .tc := ⟨.hbm, 258, rfl⟩
abbrev main_cst_56 : Ref sig .tc := ⟨.hbm, 259, rfl⟩
abbrev main_call15_v0 : Ref sig .tc := ⟨.hbm, 260, rfl⟩
abbrev main_call15_v1 : Ref sig .tc := ⟨.hbm, 261, rfl⟩
abbrev main_call15_v2 : Ref sig .tc := ⟨.hbm, 262, rfl⟩
abbrev main_call15_v3 : Ref sig .tc := ⟨.hbm, 263, rfl⟩
abbrev main_call15_v4 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_cst_57 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩

abbrev nD : Nat := 1
abbrev τ : Topo := Topo.v7x

variable {F : FTy → Type} [FloatOps F]
-- ==== Proof.Base.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The conditions the kernel's body branches on, in closed form over the grid's points, and names for the staging and
    scratch buffers that the body is run on. -/

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 2048 := Nat.lt_of_lt_of_eq t.isLt N_0
    have e0 : (grid0.coords t 0).val = t.val / 256 % 8 := Pipeline.Grid.coords_val t 0 (by decide) rfl
    have e1 : (grid0.coords t 1).val = t.val / 8 % 32 := Pipeline.Grid.coords_val t 1 (by decide) rfl
    have e2 : (grid0.coords t 2).val = t.val / 1 % 8 := Pipeline.Grid.coords_val t 2 (by decide) rfl
    simp only [cond0_0, k0_cond1, e0, e1, e2]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Nor is an output. -/
theorem liveAt0_3 : ∀ t : Fin cfg0.N, cfg0.idle 3 (grid0.coords t) = false := fun _ => rfl
theorem liveAt0_4 (t : Fin cfg0.N) (h : t.val % 8 = 0) : cfg0.idle 4 (grid0.coords t) = false := by
  show (!(k0_cond1 (grid0.coords t) == 1#1)) = false
  rw [show k0_cond1 (grid0.coords t) = 1#1 from (hcond0_0 t).mpr h]; rfl
theorem idleAt0_4 (t : Fin cfg0.N) (h : ¬ t.val % 8 = 0) : cfg0.idle 4 (grid0.coords t) = true := by
  show (!(k0_cond1 (grid0.coords t) == 1#1)) = true
  have hn : ¬ k0_cond1 (grid0.coords t) = 1#1 := fun e => h ((hcond0_0 t).mp e)
  simpa using hn
theorem liveAt0_5 (t : Fin cfg0.N) (h : t.val % 8 = 0) : cfg0.idle 5 (grid0.coords t) = false := by
  show (!(k0_cond1 (grid0.coords t) == 1#1)) = false
  rw [show k0_cond1 (grid0.coords t) = 1#1 from (hcond0_0 t).mpr h]; rfl
theorem idleAt0_5 (t : Fin cfg0.N) (h : ¬ t.val % 8 = 0) : cfg0.idle 5 (grid0.coords t) = true := by
  show (!(k0_cond1 (grid0.coords t) == 1#1)) = true
  have hn : ¬ k0_cond1 (grid0.coords t) = 1#1 := fun e => h ((hcond0_0 t).mp e)
  simpa using hn
theorem liveAt0_6 (t : Fin cfg0.N) (h : t.val % 8 = 0) : cfg0.idle 6 (grid0.coords t) = false := by
  show (!(k0_cond1 (grid0.coords t) == 1#1)) = false
  rw [show k0_cond1 (grid0.coords t) = 1#1 from (hcond0_0 t).mpr h]; rfl
theorem idleAt0_6 (t : Fin cfg0.N) (h : ¬ t.val % 8 = 0) : cfg0.idle 6 (grid0.coords t) = true := by
  show (!(k0_cond1 (grid0.coords t) == 1#1)) = true
  have hn : ¬ k0_cond1 (grid0.coords t) = 1#1 := fun e => h ((hcond0_0 t).mp e)
  simpa using hn
theorem liveAt0_7 (t : Fin cfg0.N) (h : t.val % 8 = 0) : cfg0.idle 7 (grid0.coords t) = false := by
  show (!(k0_cond1 (grid0.coords t) == 1#1)) = false
  rw [show k0_cond1 (grid0.coords t) = 1#1 from (hcond0_0 t).mpr h]; rfl
theorem idleAt0_7 (t : Fin cfg0.N) (h : ¬ t.val % 8 = 0) : cfg0.idle 7 (grid0.coords t) = true := by
  show (!(k0_cond1 (grid0.coords t) == 1#1)) = true
  have hn : ¬ k0_cond1 (grid0.coords t) = 1#1 := fun e => h ((hcond0_0 t).mp e)
  simpa using hn
theorem liveAt0_8 (t : Fin cfg0.N) (h : t.val % 8 = 0) : cfg0.idle 8 (grid0.coords t) = false := by
  show (!(k0_cond1 (grid0.coords t) == 1#1)) = false
  rw [show k0_cond1 (grid0.coords t) = 1#1 from (hcond0_0 t).mpr h]; rfl
theorem idleAt0_8 (t : Fin cfg0.N) (h : ¬ t.val % 8 = 0) : cfg0.idle 8 (grid0.coords t) = true := by
  show (!(k0_cond1 (grid0.coords t) == 1#1)) = true
  have hn : ¬ k0_cond1 (grid0.coords t) = 1#1 := fun e => h ((hcond0_0 t).mp e)
  simpa using hn
theorem liveAt0_9 (t : Fin cfg0.N) (h : t.val % 8 = 0) : cfg0.idle 9 (grid0.coords t) = false := by
  show (!(k0_cond1 (grid0.coords t) == 1#1)) = false
  rw [show k0_cond1 (grid0.coords t) = 1#1 from (hcond0_0 t).mpr h]; rfl
theorem idleAt0_9 (t : Fin cfg0.N) (h : ¬ t.val % 8 = 0) : cfg0.idle 9 (grid0.coords t) = true := by
  show (!(k0_cond1 (grid0.coords t) == 1#1)) = true
  have hn : ¬ k0_cond1 (grid0.coords t) = 1#1 := fun e => h ((hcond0_0 t).mp e)
  simpa using hn

/-! ## The kernel body on any staging memrefs -/

/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x32 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S128x2048 .fp8e4m3 := Memref.whole cc0_scratch0
abbrev scM0_1 : Memref sig .tc .vmem S16x128 .f32 := Memref.whole cc0_scratch1
abbrev scM0_2 : Memref sig .tc .vmem S16x128 .f32 := Memref.whole cc0_scratch2
abbrev scM0_3 : Memref sig .tc .vmem S16x128 .f32 := Memref.whole cc0_scratch3
abbrev scM0_4 : Memref sig .tc .vmem S2048x256 .f32 := Memref.whole cc0_scratch4
abbrev scM0_5 : Memref sig .tc .vmem S128x256 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.RunA.lean ====
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg3 : Memref sig .tc .vmem S1x2048x128 .bf16) (harg3 : arg3.IsWhole)
variable (arg4 : Memref sig .tc .vmem S1x2048x128 .bf16) (harg4 : arg4.IsWhole)
variable (arg5 : Memref sig .tc .vmem S1x2048x128 .bf16) (harg5 : arg5.IsWhole)
variable (arg6 : Memref sig .tc .vmem S1x256x128 .bf16) (harg6 : arg6.IsWhole)
variable (arg7 : Memref sig .tc .vmem S1x2048x128 .fp8e4m3) (harg7 : arg7.IsWhole)
variable (arg8 : Memref sig .tc .vmem S1x16x32 .f32) (harg8 : arg8.IsWhole)
variable (arg9 : Memref sig .tc .vmem S1x2048x128 .fp8e4m3) (harg9 : arg9.IsWhole)
variable (arg10 : Memref sig .tc .vmem S1x16x32 .f32) (harg10 : arg10.IsWhole)
variable (arg11 : Memref sig .tc .vmem S1x2048x128 .fp8e4m3) (harg11 : arg11.IsWhole)
variable (arg12 : Memref sig .tc .vmem S1x16x32 .f32) (harg12 : arg12.IsWhole)
variable (arg13 : Memref sig .tc .vmem S128x2048 .fp8e4m3) (harg13 : arg13.IsWhole)
variable (arg14 : Memref sig .tc .vmem S16x128 .f32) (harg14 : arg14.IsWhole)
variable (arg15 : Memref sig .tc .vmem S16x128 .f32) (harg15 : arg15.IsWhole)
variable (arg16 : Memref sig .tc .vmem S16x128 .f32) (harg16 : arg16.IsWhole)
variable (arg17 : Memref sig .tc .vmem S2048x256 .f32) (harg17 : arg17.IsWhole)
variable (arg18 : Memref sig .tc .vmem S128x256 .f32) (harg18 : arg18.IsWhole)
variable (hc0 : cond0_0 i)
variable (x0 : Vec F S1x2048x128 .bf16)
variable (x1 : Vec F S1x2048x128 .bf16)
variable (x2 : Vec F S1x2048x128 .bf16)
variable (x5 : Vec F S1x16x32 .f32)
variable (x7 : Vec F S1x16x32 .f32)
variable (x9 : Vec F S1x16x32 .f32)

set_option maxHeartbeats 2400000 in
/-- THE BODY AT A HEAD'S FIRST TILE (the guarded quantisation taken): what its stores leave in the seven outputs' staging buffers
    and in the four scratch buffers it fills, as the pieces the run finds, with the proof that the body runs to a continuation
    that holds those pieces written and the inputs' buffers as they were. -/
def runA :
    Σ' (L3 : List (View.Piece (Elt F) S1x256x128 .bf16)), Σ' (L4 : List (View.Piece (Elt F) S1x2048x128 .fp8e4m3)), Σ' (L5 : List (View.Piece (Elt F) S1x16x32 .f32)), Σ' (L6 : List (View.Piece (Elt F) S1x2048x128 .fp8e4m3)), Σ' (L7 : List (View.Piece (Elt F) S1x16x32 .f32)), Σ' (L8 : List (View.Piece (Elt F) S1x2048x128 .fp8e4m3)), Σ' (L9 : List (View.Piece (Elt F) S1x16x32 .f32)), Σ' (LS0 : List (View.Piece (Elt F) S128x2048 .fp8e4m3)), Σ' (LS1 : List (View.Piece (Elt F) S16x128 .f32)), Σ' (LS2 : List (View.Piece (Elt F) S16x128 .f32)), { LS3 : List (View.Piece (Elt F) S16x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare x5 ∗ (∃ d, owns (c : Thread nD τ) arg9 fullShare d) ∗ owns (c : Thread nD τ) arg10 fullShare x7 ∗ (∃ d, owns (c : Thread nD τ) arg11 fullShare d) ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ d, owns (c : Thread nD τ) arg17 fullShare d) ∗ (∃ d, owns (c : Thread nD τ) arg18 fullShare d)) -∗ K ⟨⟩))
          ⊢ wp frame (wpE (defs₀ (F := F)) Variants.none c none) E (cc0_fp8_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, ?_, ?_, fun E K => ?run⟩
  case run =>
    simp only [cc0_fp8_attention_eq_skeleton]; unfold cc0_fp8_attention_skel
    simp only [k0_part54_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d6, %f6, -, H6⟩, ⟨%f7, %hf7, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg3.eq_unread hf0; obtain rfl := harg4.eq_unread hf1; obtain rfl := harg5.eq_unread hf2; obtain rfl := harg8.eq_unread hf5; obtain rfl := harg10.eq_unread hf7; obtain rfl := harg12.eq_unread hf9
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _, _; isplitr; swap; · iexact H14
      ipureintro; rfl
    iexists _, _; isplitr; swap; · iexact H15
    ipureintro; rfl

end Cert.KernelIdeal.Hand

end
-- ==== Proof.RunB.lean ====
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg3 : Memref sig .tc .vmem S1x2048x128 .bf16) (harg3 : arg3.IsWhole)
variable (arg4 : Memref sig .tc .vmem S1x2048x128 .bf16) (harg4 : arg4.IsWhole)
variable (arg5 : Memref sig .tc .vmem S1x2048x128 .bf16) (harg5 : arg5.IsWhole)
variable (arg6 : Memref sig .tc .vmem S1x256x128 .bf16) (harg6 : arg6.IsWhole)
variable (arg7 : Memref sig .tc .vmem S1x2048x128 .fp8e4m3) (harg7 : arg7.IsWhole)
variable (arg8 : Memref sig .tc .vmem S1x16x32 .f32) (harg8 : arg8.IsWhole)
variable (arg9 : Memref sig .tc .vmem S1x2048x128 .fp8e4m3) (harg9 : arg9.IsWhole)
variable (arg10 : Memref sig .tc .vmem S1x16x32 .f32) (harg10 : arg10.IsWhole)
variable (arg11 : Memref sig .tc .vmem S1x2048x128 .fp8e4m3) (harg11 : arg11.IsWhole)
variable (arg12 : Memref sig .tc .vmem S1x16x32 .f32) (harg12 : arg12.IsWhole)
variable (arg13 : Memref sig .tc .vmem S128x2048 .fp8e4m3) (harg13 : arg13.IsWhole)
variable (arg14 : Memref sig .tc .vmem S16x128 .f32) (harg14 : arg14.IsWhole)
variable (arg15 : Memref sig .tc .vmem S16x128 .f32) (harg15 : arg15.IsWhole)
variable (arg16 : Memref sig .tc .vmem S16x128 .f32) (harg16 : arg16.IsWhole)
variable (arg17 : Memref sig .tc .vmem S2048x256 .f32) (harg17 : arg17.IsWhole)
variable (arg18 : Memref sig .tc .vmem S128x256 .f32) (harg18 : arg18.IsWhole)
variable (hc0 : ¬cond0_0 i)
variable (x0 : Vec F S1x2048x128 .bf16)
variable (x1 : Vec F S1x2048x128 .bf16)
variable (x2 : Vec F S1x2048x128 .bf16)
variable (x4 : Vec F S1x2048x128 .fp8e4m3)
variable (x5 : Vec F S1x16x32 .f32)
variable (x6 : Vec F S1x2048x128 .fp8e4m3)
variable (x7 : Vec F S1x16x32 .f32)
variable (x8 : Vec F S1x2048x128 .fp8e4m3)
variable (x9 : Vec F S1x16x32 .f32)
variable (s0 : Vec F S128x2048 .fp8e4m3)
variable (s1 : Vec F S16x128 .f32)
variable (s2 : Vec F S16x128 .f32)
variable (s3 : Vec F S16x128 .f32)

set_option maxHeartbeats 2400000 in
/-- THE BODY AT A HEAD'S LATER TILES (the guarded quantisation not taken): what its store leaves in the staging buffer of the
    attention output, as the pieces the run finds, with the proof that the body runs to a continuation that holds them written,
    every other window's buffer and the four filled scratch buffers as they were. -/
def runB :
    { L3 : List (View.Piece (Elt F) S1x256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare s0 ∗ owns (c : Thread nD τ) arg14 fullShare s1 ∗ owns (c : Thread nD τ) arg15 fullShare s2 ∗ owns (c : Thread nD τ) arg16 fullShare s3 ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare s0 ∗ owns (c : Thread nD τ) arg14 fullShare s1 ∗ owns (c : Thread nD τ) arg15 fullShare s2 ∗ owns (c : Thread nD τ) arg16 fullShare s3 ∗ (∃ d, owns (c : Thread nD τ) arg17 fullShare d) ∗ (∃ d, owns (c : Thread nD τ) arg18 fullShare d)) -∗ K ⟨⟩))
          ⊢ wp frame (wpE (defs₀ (F := F)) Variants.none c none) E (cc0_fp8_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_fp8_attention_eq_skeleton]; unfold cc0_fp8_attention_skel
    simp only [k0_part54_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := harg3.eq_unread hf0; obtain rfl := harg4.eq_unread hf1; obtain rfl := harg5.eq_unread hf2; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _, _; isplitr; swap; · iexact H14
      ipureintro; rfl
    iexists _, _; isplitr; swap; · iexact H15
    ipureintro; rfl

end Cert.KernelIdeal.Hand

end
-- ==== Proof.Ops.lean ====
module

public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

/-! What the kernel's body computes, written once as functions of the blocks it reads: the power-of-two scale of a vector of
    largest magnitudes, the quantisation of a head's tokens, and a query tile's attention over the sixteen key blocks. -/

variable {F : FTy → Type} [FloatOps F] {s : Shape}

/-! ## The scale's exponent -/

/-- One rung of the search for the exponent field of `t`: keep the bit `b` where the float it makes is still at most `t`. -/
def step (b : BitVec 32) (t : FVec F s .f32) (u : IVec s 32) : IVec s 32 :=
  select (cmpf .ole (bitcastToFloat .f32 (addi u (broadcast s b))) t) (addi u (broadcast s b)) u

/-- The exponent field of `t`, in its place: the eight bits searched from the top. -/
def bitsOf (t : FVec F s .f32) : IVec s 32 :=
  step 8388608#32 t (step 16777216#32 t (step 33554432#32 t (step 67108864#32 t (step 134217728#32 t
    (step 268435456#32 t (step 536870912#32 t (step 1073741824#32 t (broadcast s 0#32))))))))

/-- The exponent field of `a / 448` as a number. -/
def fieldOf (a : FVec F s .f32) : IVec s 32 :=
  andi (shrsi (bitsOf (mulf a (broadcast s (Scalar.ofBits .f32 0x3B124925#32)))) (broadcast s 23#32)) (broadcast s 255#32)

/-- The exponent the kernel scales by: `0` where the field is all zeros or all ones, or where `a` is `0`. -/
def expOf (a : FVec F s .f32) : IVec s 32 :=
  select (cmpf .oeq a (broadcast s (Scalar.ofBits .f32 0x00000000#32))) (broadcast s 0#32)
    (select (ori (cmpi .eq (fieldOf a) (broadcast s 0#32)) (cmpi .eq (fieldOf a) (broadcast s 255#32))) (broadcast s 0#32)
      (subi (fieldOf a) (broadcast s 126#32)))

/-- `2 ^ n`, built from its exponent field: `0` below the normal range, infinity above it. -/
def pow2Of (n : IVec s 32) : FVec F s .f32 :=
  bitcastToFloat .f32 (select (cmpi .sle (addi n (broadcast s 127#32)) (broadcast s 0#32)) (broadcast s 0#32)
    (select (cmpi .sge (addi n (broadcast s 127#32)) (broadcast s 255#32)) (broadcast s 2139095040#32)
      (shli (addi n (broadcast s 127#32)) (broadcast s 23#32))))

/-- `- n`. -/
def negOf (n : IVec s 32) : IVec s 32 := subi (broadcast s 0#32) n

/-- The clip to `[-448, 448]`. -/
def clip (v : FVec F s .f32) : FVec F s .f32 :=
  minimumf (broadcast s (Scalar.ofBits .f32 0x43E00000#32)) (maximumf (broadcast s (Scalar.ofBits .f32 0xC3E00000#32)) v)

/-! ## A head's tokens -/

variable (x : Vec F S1x2048x128 .bf16)

/-- A head's tokens in blocks of 128. -/
abbrev tokens : FVec F S16x128x128 .f32 := k0_pay3 x

/-- Each block's largest magnitude. -/
abbrev amaxOf : FVec F S16x1 .f32 := k0_pay4 x

/-- Each block's scale. -/
def scaleOf : FVec F S16x1 .f32 := pow2Of (expOf (amaxOf x))

/-- The tokens over their scale, clipped. -/
def quantOf : FVec F S2048x128 .f32 :=
  shapeCast S2048x128 (clip (mulf (tokens x) (broadcastTo S16x128x128
    (shapeCast S16x1x1 (pow2Of (F := F) (negOf (expOf (amaxOf x)))) shapeCasts_S16x1_S16x1x1) broadcasts_S16x1x1_S16x128x128)))
    shapeCasts_S16x128x128_S2048x128

/-- A head's codes. -/
def codesOf : FVec F S1x2048x128 .fp8e4m3 :=
  shapeCast S1x2048x128 (truncf .fp8e4m3 (quantOf x) bitsLt_fp8e4m3_f32) shapeCasts_S2048x128_S1x2048x128

/-- A head's codes, transposed. -/
def codesTOf : FVec F S128x2048 .fp8e4m3 :=
  shapeCast S128x2048 (truncf .fp8e4m3 (transpose S128x2048 [1, 0] (quantOf x) transposes_S2048x128_p1_0_S128x2048) bitsLt_fp8e4m3_f32)
    shapeCasts_S128x2048_S128x2048

/-- A head's scales, each repeated over 128 lanes. -/
def lanesOf : FVec F S16x128 .f32 := k0_pay34 (scaleOf x)

/-- The table of scales with the head's column `h` set: what it was before (zero at the first head) elsewhere. -/
def tableOf (h : BitVec 32) (old : Vec F S1x16x32 .f32) : FVec F S1x16x32 .f32 := k0_pay31 h (scaleOf x) old

/-! ## A query tile's attention -/

/-- The rows of block `n` of a matrix with a row per block. -/
def rowOf (n : ℕ) (hn : n < 16) (v : FVec F S16x256 .f32) : FVec F S1x256 .f32 :=
  extractStridedSlice S1x256 ![n, 0] v ⟨rfl, fun a => by fin_cases a <;> simp <;> omega⟩

/-- The 128 rows of key block `n` of a tile's raw scores. -/
def keyRows (n : ℕ) (hn : n < 16) (raw : Vec F S2048x256 .f32) : Vec F S128x256 .f32 :=
  View.ld raw (Rect.unit (s := S2048x256) ![128 * n, 0] S128x256.size (fun a => by fin_cases a <;> simp <;> omega))

/-- The 128 columns of value block `n` of a head's transposed codes. -/
def valueCols (n : ℕ) (hn : n < 16) (vt : Vec F S128x2048 .fp8e4m3) : Vec F S128x128 .fp8e4m3 :=
  View.ld vt (Rect.unit (s := S128x2048) ![0, 128 * n] S128x128.size (fun a => by fin_cases a <;> simp <;> omega))

/-- The weights of a key block: `exp (r * c - m)`, `c` and `m` a number per query. -/
def probOf (cn m : FVec F S1x256 .f32) (r : Vec F S128x256 .f32) : FVec F S128x256 .f32 :=
  exp (subf (mulf r (broadcastTo S128x256 cn broadcasts_S1x256_S128x256)) (broadcastTo S128x256 m broadcasts_S1x256_S128x256))

/-- Each query's sum of a key block's weights. -/
def sumOf (p : FVec F S128x256 .f32) : FVec F S1x256 .f32 :=
  shapeCast S1x256 (multiReduction .add [0] S256 p 0x00000000#32 reduces_S128x256_S256 (.inl rfl) rfl) shapeCasts_S256_S1x256

/-- Each query's largest weight in a key block. -/
def topOf (p : FVec F S128x256 .f32) : FVec F S1x256 .f32 :=
  shapeCast S1x256 (multiReduction .maximumf [0] S256 p 0xFF800000#32 reduces_S128x256_S256 (.inl rfl) rfl) shapeCasts_S256_S1x256

/-- A key block's weights over their scale, clipped. -/
def pquantOf (p : FVec F S128x256 .f32) : FVec F S128x256 .f32 :=
  clip (mulf p (broadcastTo S128x256 (pow2Of (F := F) (negOf (expOf (topOf p)))) broadcasts_S1x256_S128x256))

/-- What a key block adds to the result: the value codes against the weights' codes, times both scales. -/
def partOf (p : FVec F S128x256 .f32) (vn : Vec F S128x128 .fp8e4m3) (sn : FVec F S1x256 .f32) : FVec F S128x256 .f32 :=
  mulf (matmul dot_S128x128_S128x256_S128x256_1_0_0_1_n_n none vn (truncf .fp8e4m3 (pquantOf p) bitsLt_fp8e4m3_f32)
      (constant S128x256 .f32 0x00000000#32))
    (broadcastTo S128x256 (mulf (pow2Of (expOf (topOf p))) sn) broadcasts_S1x256_S128x256)

section Tile

variable (qt : Vec F S1x256x128 .fp8e4m3) (kc : Vec F S1x2048x128 .fp8e4m3) (vt : Vec F S128x2048 .fp8e4m3)
variable (q0 q1 : Vec F S1x128 .f32) (kl vl : Vec F S16x128 .f32)

/-- A tile's raw scores: key codes against query codes. -/
def rawOf : FVec F S2048x256 .f32 := k0_pay39 qt kc

/-- The factor of each key block and query. -/
abbrev coefOf : FVec F S16x256 .f32 := k0_pay41 q0 q1 kl

/-- Each query's largest score. -/
abbrev maxOf : FVec F S1x256 .f32 := k0_pay43 (coefOf q0 q1 kl) (k0_pay42 qt kc)

/-- The weights of key block `n`. -/
def weights (n : ℕ) (hn : n < 16) : FVec F S128x256 .f32 :=
  probOf (rowOf n hn (coefOf q0 q1 kl)) (maxOf qt kc q0 q1 kl) (keyRows n hn (rawOf qt kc))

/-- Each query's sum of the weights of key blocks `0 … n`. -/
def denom : (n : ℕ) → n < 16 → FVec F S1x256 .f32
  | 0, hn => addf (broadcast S1x256 (Scalar.ofBits .f32 0x00000000#32)) (sumOf (weights qt kc q0 q1 kl 0 hn))
  | n + 1, hn => addf (denom n (Nat.lt_of_succ_lt hn)) (sumOf (weights qt kc q0 q1 kl (n + 1) hn))

/-- What key block `n` adds. -/
def part (n : ℕ) (hn : n < 16) : FVec F S128x256 .f32 :=
  partOf (weights qt kc q0 q1 kl n hn) (valueCols n hn vt) (rowOf n hn (k0_pay40 vl))

/-- The sum of what key blocks `0 … n` add. -/
def numer : (n : ℕ) → n < 16 → FVec F S128x256 .f32
  | 0, hn => shapeCast S128x256 (part qt kc vt q0 q1 kl vl 0 hn) shapeCasts_S128x256_S128x256
  | n + 1, hn => shapeCast S128x256 (addf (numer n (Nat.lt_of_succ_lt hn)) (part qt kc vt q0 q1 kl vl (n + 1) hn)) shapeCasts_S128x256_S128x256

/-- The tile's result. -/
def attend : FVec F S1x256x128 .bf16 :=
  k0_pay2 (denom qt kc q0 q1 kl 15 (by omega)) (numer qt kc vt q0 q1 kl vl 15 (by omega))

end Tile

/-! ## A point of the grid, over a head's codes -/

/-- A query tile's codes. -/
def tileOf (i : grid0.Coords) (qc : Vec F S1x2048x128 .fp8e4m3) : Vec F S1x256x128 .fp8e4m3 :=
  View.ld qc (Rect.unit (s := S1x2048x128) (k0_off1 i) S1x256x128.size (k0_off1_inb i))

/-- The scales of the two query blocks of a tile, each repeated over 128 lanes. -/
def laneRow (i : grid0.Coords) (r : Fin 2) (ql : Vec F S16x128 .f32) : Vec F S1x128 .f32 :=
  View.ld ql (Rect.unit (s := S16x128) (k0_off2 i (BitVec.ofNat 32 r.val)) S1x128.size (k0_off2_inb i r))

/-- The result block of a point of the grid. -/
def blockOf (i : grid0.Coords) (qc kc : Vec F S1x2048x128 .fp8e4m3) (vt : Vec F S128x2048 .fp8e4m3) (ql kl vl : Vec F S16x128 .f32) :
    FVec F S1x256x128 .bf16 :=
  attend (tileOf i qc) kc vt (laneRow i 0 ql) (laneRow i 1 ql) kl vl

end Cert.KernelIdeal.Hand

end
-- ==== Proof.Pieces.lean ====
module

public import proofs.«01_k».proof.Proof.RunA
public import proofs.«01_k».proof.Proof.RunB
public import proofs.«01_k».proof.Proof.Ops
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD) (i : grid0.Coords)
variable (arg3 : Memref sig .tc .vmem S1x2048x128 .bf16) (harg3 : arg3.IsWhole)
variable (arg4 : Memref sig .tc .vmem S1x2048x128 .bf16) (harg4 : arg4.IsWhole)
variable (arg5 : Memref sig .tc .vmem S1x2048x128 .bf16) (harg5 : arg5.IsWhole)
variable (arg6 : Memref sig .tc .vmem S1x256x128 .bf16) (harg6 : arg6.IsWhole)
variable (arg7 : Memref sig .tc .vmem S1x2048x128 .fp8e4m3) (harg7 : arg7.IsWhole)
variable (arg8 : Memref sig .tc .vmem S1x16x32 .f32) (harg8 : arg8.IsWhole)
variable (arg9 : Memref sig .tc .vmem S1x2048x128 .fp8e4m3) (harg9 : arg9.IsWhole)
variable (arg10 : Memref sig .tc .vmem S1x16x32 .f32) (harg10 : arg10.IsWhole)
variable (arg11 : Memref sig .tc .vmem S1x2048x128 .fp8e4m3) (harg11 : arg11.IsWhole)
variable (arg12 : Memref sig .tc .vmem S1x16x32 .f32) (harg12 : arg12.IsWhole)
variable (arg13 : Memref sig .tc .vmem S128x2048 .fp8e4m3) (harg13 : arg13.IsWhole)
variable (arg14 : Memref sig .tc .vmem S16x128 .f32) (harg14 : arg14.IsWhole)
variable (arg15 : Memref sig .tc .vmem S16x128 .f32) (harg15 : arg15.IsWhole)
variable (arg16 : Memref sig .tc .vmem S16x128 .f32) (harg16 : arg16.IsWhole)
variable (arg17 : Memref sig .tc .vmem S2048x256 .f32) (harg17 : arg17.IsWhole)
variable (arg18 : Memref sig .tc .vmem S128x256 .f32) (harg18 : arg18.IsWhole)
variable (hc0 : ¬cond0_0 i)
variable (x0 : Vec F S1x2048x128 .bf16)
variable (x1 : Vec F S1x2048x128 .bf16)
variable (x2 : Vec F S1x2048x128 .bf16)
variable (x4 : Vec F S1x2048x128 .fp8e4m3)
variable (x5 : Vec F S1x16x32 .f32)
variable (x6 : Vec F S1x2048x128 .fp8e4m3)
variable (x7 : Vec F S1x16x32 .f32)
variable (x8 : Vec F S1x2048x128 .fp8e4m3)
variable (x9 : Vec F S1x16x32 .f32)
variable (s0 : Vec F S128x2048 .fp8e4m3)
variable (s1 : Vec F S16x128 .f32)
variable (s2 : Vec F S16x128 .f32)
variable (s3 : Vec F S16x128 .f32)

/-- A load of part of a buffer after one store of the whole of it: that part of what was stored. -/
theorem readCov_part {S : Shape} {e : EltTy} {κ : Kind} {sp : Space} (v : View sig κ sp S e) {off : Fin S.rank → ℕ}
    (inb : ∀ a, off a + S.size a ≤ S.size a) (w : S.Idx → Elt F e) (h : ∀ a, off a = 0) (r : Rect S) :
    v.readCov [(⟨Rect.unit off (no_index S.size) inb, w⟩ : View.Piece (Elt F) S e)] r.toLoadRect = View.ld w r := by
  obtain rfl := View.eq_zero_of_forall h
  rw [View.readCov_eq_canon_ld _ _ _ (fun y => ⟨_, List.mem_cons_self, by
    show y ∈ (Rect.whole S).set; rw [Rect.set_whole]; exact Finset.mem_univ y⟩), View.canon_unit_zero rfl]

/-- What a buffer holds after several stores, the last of them of the whole of it: what that one stored. -/
theorem read_writes_last {S : Shape} {e : EltTy} {κ : Kind} {sp : Space} (v : View sig κ sp S e) {off : Fin S.rank → ℕ}
    (inb : ∀ a, off a + S.size a ≤ S.size a) (w : S.Idx → Elt F e) (L : List (View.Piece (Elt F) S e)) (h : ∀ a, off a = 0) (f) :
    v.read (Elt F) (v.writes (Elt F) f ((⟨Rect.unit off (no_index S.size) inb, w⟩ : View.Piece (Elt F) S e) :: L)) = w := by
  obtain rfl := View.eq_zero_of_forall h
  rw [View.read_writes_eq_canon _ _ _ (fun y => ⟨_, List.mem_cons_self, by
    show y ∈ (Rect.whole S).set; rw [Rect.set_whole]; exact Finset.mem_univ y⟩), View.canon_cons_unit_zero rfl]

/-- At a head's later tiles the body leaves the tile's attention over the head's codes, whatever the result's buffer held. -/
theorem pieceB (f) :
    arg6.view.read (Elt F) (arg6.view.writes (Elt F) f (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x4 x5 x6 x7 x8 x9 s0 s1 s2 s3).1)
      = blockOf i x4 x6 s0 s1 s2 s3 := by
  unfold runB
  dsimp only
  sl_unfold_run_names
  simp (disch := decide) only [read_writes_last, readCov_part, View.readCov_cons_unit_lit', View.readAt_eq_ld,
    View.ld_unit_lit', harg7.read_unread, harg9.read_unread, harg13.read_unread, harg14.read_unread, harg15.read_unread,
    harg16.read_unread]
  rfl

/-- At a head's first tile the body leaves, whatever the buffers held: the tile's attention over the codes it has just computed,
    those codes, each scale table with the head's column set, and in the scratch buffers the transposed codes of the values and
    the three heads' scales. -/
theorem pieceA (hcA : cond0_0 i) (r) (hr : r = runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hcA x0 x1 x2 x5 x7 x9) :
    (∀ f, arg6.view.read (Elt F) (arg6.view.writes (Elt F) f r.1)
        = blockOf i (codesOf x0) (codesOf x1) (codesTOf x2) (lanesOf x0) (lanesOf x1) (lanesOf x2))
      ∧ (∀ f, arg7.view.read (Elt F) (arg7.view.writes (Elt F) f r.2.1) = codesOf x0)
      ∧ (∀ f, arg8.view.read (Elt F) (arg8.view.writes (Elt F) f r.2.2.1) = tableOf x0 (BitVec.ofNat 32 (i 1).val) x5)
      ∧ (∀ f, arg9.view.read (Elt F) (arg9.view.writes (Elt F) f r.2.2.2.1) = codesOf x1)
      ∧ (∀ f, arg10.view.read (Elt F) (arg10.view.writes (Elt F) f r.2.2.2.2.1) = tableOf x1 (BitVec.ofNat 32 (i 1).val) x7)
      ∧ (∀ f, arg11.view.read (Elt F) (arg11.view.writes (Elt F) f r.2.2.2.2.2.1) = codesOf x2)
      ∧ (∀ f, arg12.view.read (Elt F) (arg12.view.writes (Elt F) f r.2.2.2.2.2.2.1) = tableOf x2 (BitVec.ofNat 32 (i 1).val) x9)
      ∧ (∀ f, arg13.view.read (Elt F) (arg13.view.writes (Elt F) f r.2.2.2.2.2.2.2.1) = codesTOf x2)
      ∧ (∀ f, arg14.view.read (Elt F) (arg14.view.writes (Elt F) f r.2.2.2.2.2.2.2.2.1) = lanesOf x0)
      ∧ (∀ f, arg15.view.read (Elt F) (arg15.view.writes (Elt F) f r.2.2.2.2.2.2.2.2.2.1) = lanesOf x1)
      ∧ (∀ f, arg16.view.read (Elt F) (arg16.view.writes (Elt F) f r.2.2.2.2.2.2.2.2.2.2.1) = lanesOf x2) := by
  subst hr
  unfold runA
  dsimp only
  sl_unfold_run_names
  refine ⟨fun f => ?_, fun f => ?_, fun f => ?_, fun f => ?_, fun f => ?_, fun f => ?_, fun f => ?_, fun f => ?_, fun f => ?_,
    fun f => ?_, fun f => ?_⟩
  all_goals
    simp (disch := decide) only [read_writes_last, readCov_part, View.readCov_cons_unit_lit', View.readAt_eq_ld,
      View.ld_unit_lit', harg3.read_unread, harg4.read_unread, harg5.read_unread, harg7.read_unread, harg8.read_unread, harg9.read_unread, harg10.read_unread, harg12.read_unread, harg13.read_unread, harg14.read_unread, harg15.read_unread, harg16.read_unread]
  all_goals rfl

end Cert.KernelIdeal.Hand

end
-- ==== Proof.Dats.lean ====
module

public import proofs.«01_k».proof.Proof.Pieces
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The pipeline's proof data: what every window's staging buffer and every scratch buffer holds after each point of the grid, in
    closed form over the heads' blocks. -/

variable (m : (ℓ : Loc nD τ sig) → Buf (Elt F) ℓ) (c : Dev nD)

/-! ## The heads' blocks -/

/-- The first point of the grid at which head `g` (counted over all batches) is worked on. -/
def headAt (g : ℕ) : Fin cfg0.N := ⟨8 * (g % 256), by have h : cfg0.N = 2048 := N_0; omega⟩

/-- The queries, the keys and the values of head `g`. -/
def headQ (g : ℕ) : Vec F S1x2048x128 .bf16 := iblk m c 0 (headAt g)
def headK (g : ℕ) : Vec F S1x2048x128 .bf16 := iblk m c 1 (headAt g)
def headV (g : ℕ) : Vec F S1x2048x128 .bf16 := iblk m c 2 (headAt g)

/-- A scale table after head `g`: the columns of the heads of `g`'s batch up to `g` set, the others zero. -/
def tableAt (X : ℕ → Vec F S1x2048x128 .bf16) : ℕ → FVec F S1x16x32 .f32
  | 0 => tableOf (X 0) 0#32 (broadcast S1x16x32 (Scalar.ofBits .f32 0x00000000#32))
  | g + 1 => tableOf (X (g + 1)) (BitVec.ofNat 32 ((g + 1) % 32)) (tableAt X g)

/-- At a batch's first head the table's earlier contents do not matter. -/
theorem tableOf_zero (x : Vec F S1x2048x128 .bf16) (old old' : Vec F S1x16x32 .f32) : tableOf x 0#32 old = tableOf x 0#32 old' := rfl

/-- The table after a head that begins a batch, whatever it was before. -/
theorem tableAt_reset (X : ℕ → Vec F S1x2048x128 .bf16) (g : ℕ) (hg : g % 32 = 0) (old : Vec F S1x16x32 .f32) :
    tableAt X g = tableOf (X g) (BitVec.ofNat 32 (g % 32)) old := by
  cases g with
  | zero => exact tableOf_zero _ _ _
  | succ g => show tableOf _ (BitVec.ofNat 32 ((g + 1) % 32)) _ = _; rw [hg]; exact tableOf_zero _ _ _

/-- The table after any other head, over what it was after the head before. -/
theorem tableAt_step (X : ℕ → Vec F S1x2048x128 .bf16) (g : ℕ) (hg : g ≠ 0) :
    tableAt X g = tableOf (X g) (BitVec.ofNat 32 (g % 32)) (tableAt X (g - 1)) := by
  cases g with
  | zero => exact absurd rfl hg
  | succ g => rfl

/-- A point's coordinate along the heads. -/
theorem coords_head (t : Fin cfg0.N) : (grid0.coords t 1).val = t.val / 8 % 32 := Pipeline.Grid.coords_val t 1 (by decide) rfl

/-- The result block of the tile at point `t`. -/
def tileAt (t : Fin cfg0.N) : FVec F S1x256x128 .bf16 :=
  blockOf (grid0.coords t) (codesOf (headQ m c (t.val / 8))) (codesOf (headK m c (t.val / 8))) (codesTOf (headV m c (t.val / 8)))
    (lanesOf (headQ m c (t.val / 8))) (lanesOf (headK m c (t.val / 8))) (lanesOf (headV m c (t.val / 8)))

/-! ## The proof data -/

/-- The scratch buffers before point `n`: at anything before the first point; afterwards the transposed value codes and the three
    heads' scales of the head of the point before, the score buffer and the accumulator at anything. -/
def PhiS : ℕ → sProp 𝕄
  | 0 => Pipeline.ΦA spec0 c
  | n + 1 => iprop(iprop(owns (c : Thread nD τ) scM0_0 fullShare (codesTOf (headV m c (n / 8))) ∗ owns (c : Thread nD τ) scM0_1 fullShare (lanesOf (headQ m c (n / 8))) ∗ owns (c : Thread nD τ) scM0_2 fullShare (lanesOf (headK m c (n / 8))) ∗ owns (c : Thread nD τ) scM0_3 fullShare (lanesOf (headV m c (n / 8))) ∗ (∃ d, owns (c : Thread nD τ) scM0_4 fullShare d) ∗ (∃ d, owns (c : Thread nD τ) scM0_5 fullShare d)) ∗ (∃ r, prngReg c r))

theorem PhiS_pos (n : ℕ) (hn : n ≠ 0) : PhiS m c n = iprop(iprop(owns (c : Thread nD τ) scM0_0 fullShare (codesTOf (headV m c ((n - 1) / 8))) ∗ owns (c : Thread nD τ) scM0_1 fullShare (lanesOf (headQ m c ((n - 1) / 8))) ∗ owns (c : Thread nD τ) scM0_2 fullShare (lanesOf (headK m c ((n - 1) / 8))) ∗ owns (c : Thread nD τ) scM0_3 fullShare (lanesOf (headV m c ((n - 1) / 8))) ∗ (∃ d, owns (c : Thread nD τ) scM0_4 fullShare d) ∗ (∃ d, owns (c : Thread nD τ) scM0_5 fullShare d)) ∗ (∃ r, prngReg c r)) := by
  cases n with
  | zero => exact absurd rfl hn
  | succ n => rfl

/-- What the pipeline's buffers hold after the body at each point: the inputs' their blocks, the result's the tile's attention,
    each code window's its head's codes, each scale window's the table up to that head. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileAt m c t
    | ⟨4, _⟩ => codesOf (headQ m c (t.val / 8))
    | ⟨5, _⟩ => tableAt (headQ m c) (t.val / 8)
    | ⟨6, _⟩ => codesOf (headK m c (t.val / 8))
    | ⟨7, _⟩ => tableAt (headK m c) (t.val / 8)
    | ⟨8, _⟩ => codesOf (headV m c (t.val / 8))
    | ⟨9, _⟩ => tableAt (headV m c) (t.val / 8)
  Φ t := PhiS m c t.val
  q _ := fullShare
  owed _ := 0

theorem A_eq (w : Fin cfg0.W) : (dats m 0 c).A w = V m c (Pipeline.arrRef spec0 w) := by dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = tileAt m c t := by dsimp only [dats]
theorem after0_4 (t : Fin cfg0.N) : (dats m 0 c).after 4 t = codesOf (headQ m c (t.val / 8)) := by dsimp only [dats]
theorem after0_5 (t : Fin cfg0.N) : (dats m 0 c).after 5 t = tableAt (headQ m c) (t.val / 8) := by dsimp only [dats]
theorem after0_6 (t : Fin cfg0.N) : (dats m 0 c).after 6 t = codesOf (headK m c (t.val / 8)) := by dsimp only [dats]
theorem after0_7 (t : Fin cfg0.N) : (dats m 0 c).after 7 t = tableAt (headK m c) (t.val / 8) := by dsimp only [dats]
theorem after0_8 (t : Fin cfg0.N) : (dats m 0 c).after 8 t = codesOf (headV m c (t.val / 8)) := by dsimp only [dats]
theorem after0_9 (t : Fin cfg0.N) : (dats m 0 c).after 9 t = tableAt (headV m c) (t.val / 8) := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d

/-! ## What an output's buffer holds when the body runs, the body storing into it at a head's first tile only -/

section Carry

variable {c} (dat : Dat τ (Elt F) Unit ℕ (UR sig nD τ) ℕ cfg0 c) (w : Fin cfg0.W)

/-- The point before. -/
def prev (t : Fin cfg0.N) : Fin cfg0.N := ⟨t.val - 1, Nat.lt_of_le_of_lt (Nat.sub_le _ _) t.isLt⟩

/-- A window's buffer holds at `t` what it held after the point before, where that point does not write it back and, if the body
    left it alone there, held then what the proof data says. -/
theorem before_prev (hw : (cfg0.win w).isOut = true) (hclip : ∀ (i : cfg0.grid.Coords) a, (cfg0.win w).clip i a = none)
    (t : Fin cfg0.N) (ht : t.val ≠ 0) (hfl : (cfg0.win w).flush (prev t) = false)
    (hp : cfg0.idle w (grid0.coords (prev t)) = true → ∀ d, dat.before w (prev t) d = dat.after w (prev t)) (d) :
    dat.before w t d = dat.after w (prev t) := by
  rw [dat.before_of_pos w t ht ((cfg0.win w).fetch_out hw t)]
  show (if (cfg0.win w).flush (prev t) then d else dat.left w (prev t) d) = _
  rw [hfl, if_neg Bool.false_ne_true]
  unfold Dat.left
  cases hi : cfg0.idle w (cfg0.grid.coords (prev t)) with
  | true => exact hp hi d
  | false =>
    show dat.kept w (prev t) d = _
    unfold Dat.kept
    rw [Pipeline.fill_of_clip_none w _ (hclip _) d (dat.after w _), Window.fill_cut]

/-- Between a head's first tile and its last a window's buffer holds what the first tile left. -/
theorem before_within (hw : (cfg0.win w).isOut = true) (hclip : ∀ (i : cfg0.grid.Coords) a, (cfg0.win w).clip i a = none)
    (hlive : ∀ t : Fin cfg0.N, t.val % 8 = 0 → cfg0.idle w (grid0.coords t) = false)
    (hfl : ∀ t : Fin cfg0.N, ¬ t.val % 8 = 7 → (cfg0.win w).flush t = false)
    (hafter : ∀ t : Fin cfg0.N, ¬ t.val % 8 = 0 → dat.after w t = dat.after w (prev t)) :
    ∀ (n : ℕ) (t : Fin cfg0.N), t.val = n → ¬ t.val % 8 = 0 → ∀ d, dat.before w t d = dat.after w t := by
  intro n
  induction n with
  | zero => intro t ht h; exact absurd (by rw [ht]) h
  | succ n ih =>
    intro t ht h d
    have hv : (prev t).val = n := by show t.val - 1 = n; omega
    rw [hafter t h]
    refine before_prev dat w hw hclip t (by omega) (hfl _ (by rw [hv]; omega)) (fun hi => ih (prev t) hv fun h0 => ?_) d
    rw [hlive _ h0] at hi
    exact absurd hi Bool.false_ne_true

/-- A buffer holding what the proof data says was left in it is what the body owes, its point idle for the window or not. -/
theorem leaves_of (t : Fin cfg0.N) (h : cfg0.idle w (grid0.coords t) = true → ∃ d, dat.before w t d = dat.after w t) :
    (owns (c : Thread nD τ) ((cfg0.win w).stage (cfg0.slots t w)) fullShare (dat.after w t) : sProp 𝕄) ⊢ dat.leavesExact w t := by
  unfold Dat.leavesExact
  cases hi : cfg0.idle w (cfg0.grid.coords t) with
  | false => exact .rfl
  | true =>
    cases hf : (cfg0.win w).flush t with
    | true => exact .rfl
    | false =>
      obtain ⟨d, hd⟩ := h hi
      rw [← hd]
      iintro H
      iexists d
      iexact H

end Carry

end Cert.KernelIdeal.Hand

end
-- ==== Proof.Body.lean ====
module

public import proofs.«01_k».proof.Proof.Dats

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at every point of the grid, against the proof data, and the kernel's run. -/

variable (m : (ℓ : Loc nD τ sig) → Buf (Elt F) ℓ) (ρ : Dev nD → PrngReg) (c : Dev nD)

/-! ## The outputs' buffers at a point -/

theorem prev_div (t : Fin cfg0.N) (h : ¬ t.val % 8 = 0) : (prev t).val / 8 = t.val / 8 := by
  show (t.val - 1) / 8 = _; omega

theorem headAt_div (t : Fin cfg0.N) (h : t.val % 8 = 0) : headAt (t.val / 8) = t := by
  have hN : t.val < 2048 := lt_of_lt_of_eq t.isLt (show cfg0.N = 2048 from N_0)
  exact Fin.ext (by show 8 * (t.val / 8 % 256) = _; omega)

theorem notFlush8 {w : Fin cfg0.W} (h : ∀ t : Fin cfg0.N, (cfg0.win w).flush t = true ↔ t.val % 8 = 7) (t : Fin cfg0.N)
    (ht : ¬ t.val % 8 = 7) : (cfg0.win w).flush t = false := Bool.eq_false_iff.mpr fun e => ht ((h t).mp e)

theorem notFlush256 {w : Fin cfg0.W} (h : ∀ t : Fin cfg0.N, (cfg0.win w).flush t = true ↔ t.val % 256 = 255) (t : Fin cfg0.N)
    (ht : ¬ t.val % 256 = 255) : (cfg0.win w).flush t = false := Bool.eq_false_iff.mpr fun e => ht ((h t).mp e)

/-- At a head's later tiles each of the six carried outputs' buffers holds what the proof data says. -/

theorem before0_4 (t : Fin cfg0.N) (h : ¬ t.val % 8 = 0) (d) : (dats m 0 c).before 4 t d = (dats m 0 c).after 4 t :=
  before_within (dats m 0 c) 4 rfl (fun _ _ => rfl) liveAt0_4 (notFlush8 flush0_4)
    (fun t h => by rw [after0_4, after0_4, prev_div t h]) t.val t rfl h d

theorem before0_6 (t : Fin cfg0.N) (h : ¬ t.val % 8 = 0) (d) : (dats m 0 c).before 6 t d = (dats m 0 c).after 6 t :=
  before_within (dats m 0 c) 6 rfl (fun _ _ => rfl) liveAt0_6 (notFlush8 flush0_6)
    (fun t h => by rw [after0_6, after0_6, prev_div t h]) t.val t rfl h d

theorem before0_8 (t : Fin cfg0.N) (h : ¬ t.val % 8 = 0) (d) : (dats m 0 c).before 8 t d = (dats m 0 c).after 8 t :=
  before_within (dats m 0 c) 8 rfl (fun _ _ => rfl) liveAt0_8 (notFlush8 flush0_8)
    (fun t h => by rw [after0_8, after0_8, prev_div t h]) t.val t rfl h d

theorem before0_5 (t : Fin cfg0.N) (h : ¬ t.val % 8 = 0) (d) : (dats m 0 c).before 5 t d = (dats m 0 c).after 5 t :=
  before_within (dats m 0 c) 5 rfl (fun _ _ => rfl) liveAt0_5 (fun t h => notFlush256 flush0_5 t (by omega))
    (fun t h => by rw [after0_5, after0_5, prev_div t h]) t.val t rfl h d

theorem before0_7 (t : Fin cfg0.N) (h : ¬ t.val % 8 = 0) (d) : (dats m 0 c).before 7 t d = (dats m 0 c).after 7 t :=
  before_within (dats m 0 c) 7 rfl (fun _ _ => rfl) liveAt0_7 (fun t h => notFlush256 flush0_7 t (by omega))
    (fun t h => by rw [after0_7, after0_7, prev_div t h]) t.val t rfl h d

theorem before0_9 (t : Fin cfg0.N) (h : ¬ t.val % 8 = 0) (d) : (dats m 0 c).before 9 t d = (dats m 0 c).after 9 t :=
  before_within (dats m 0 c) 9 rfl (fun _ _ => rfl) liveAt0_9 (fun t h => notFlush256 flush0_9 t (by omega))
    (fun t h => by rw [after0_9, after0_9, prev_div t h]) t.val t rfl h d

/-- At a head's first tile, the head's column set in what a scale window's buffer holds makes the table of the proof data. -/
theorem table_of_before (X : ℕ → Vec F S1x2048x128 .bf16) (t : Fin cfg0.N) (h : t.val % 8 = 0)
    (b : Vec F S1x16x32 .f32) (hb : t.val / 8 % 32 ≠ 0 → b = tableAt X ((prev t).val / 8)) :
    tableOf (X (t.val / 8)) (BitVec.ofNat 32 (grid0.coords t 1).val) b = tableAt X (t.val / 8) := by
  rw [coords_head]
  by_cases h0 : t.val / 8 % 32 = 0
  · exact (tableAt_reset X _ h0 b).symm
  · rw [tableAt_step X _ (fun e => h0 (by rw [e])), hb h0]
    congr 2
    show (t.val - 1) / 8 = _; omega

theorem table0_5 (t : Fin cfg0.N) (h : t.val % 8 = 0) (d) :
    tableOf (iblk m c 0 t) (BitVec.ofNat 32 (grid0.coords t 1).val) ((dats m 0 c).before 5 t d) = tableAt (headQ m c) (t.val / 8) := by
  have e := table_of_before (headQ m c) t h ((dats m 0 c).before 5 t d) fun h0 => by
    rw [before_prev (dats m 0 c) 5 rfl (fun _ _ => rfl) t (fun e => h0 (by rw [e])) (notFlush256 flush0_5 _ (by show ¬ (t.val - 1) % 256 = 255; omega))
      (fun hi d => before0_5 m c (prev t) (fun h1 => by rw [liveAt0_5 _ h1] at hi; exact absurd hi Bool.false_ne_true) d) d, after0_5]
  rw [← e]; unfold headQ; rw [headAt_div t h]

theorem table0_7 (t : Fin cfg0.N) (h : t.val % 8 = 0) (d) :
    tableOf (iblk m c 1 t) (BitVec.ofNat 32 (grid0.coords t 1).val) ((dats m 0 c).before 7 t d) = tableAt (headK m c) (t.val / 8) := by
  have e := table_of_before (headK m c) t h ((dats m 0 c).before 7 t d) fun h0 => by
    rw [before_prev (dats m 0 c) 7 rfl (fun _ _ => rfl) t (fun e => h0 (by rw [e])) (notFlush256 flush0_7 _ (by show ¬ (t.val - 1) % 256 = 255; omega))
      (fun hi d => before0_7 m c (prev t) (fun h1 => by rw [liveAt0_7 _ h1] at hi; exact absurd hi Bool.false_ne_true) d) d, after0_7]
  rw [← e]; unfold headK; rw [headAt_div t h]

theorem table0_9 (t : Fin cfg0.N) (h : t.val % 8 = 0) (d) :
    tableOf (iblk m c 2 t) (BitVec.ofNat 32 (grid0.coords t 1).val) ((dats m 0 c).before 9 t d) = tableAt (headV m c) (t.val / 8) := by
  have e := table_of_before (headV m c) t h ((dats m 0 c).before 9 t d) fun h0 => by
    rw [before_prev (dats m 0 c) 9 rfl (fun _ _ => rfl) t (fun e => h0 (by rw [e])) (notFlush256 flush0_9 _ (by show ¬ (t.val - 1) % 256 = 255; omega))
      (fun hi d => before0_9 m c (prev t) (fun h1 => by rw [liveAt0_9 _ h1] at hi; exact absurd hi Bool.false_ne_true) d) d, after0_9]
  rw [← e]; unfold headV; rw [headAt_div t h]

/-! ## The body obligation -/

/-- What the body is called with at point `t`, the windows one by one, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

theorem PhiS_succ (n : ℕ) : PhiS m c (n + 1) = iprop(iprop(owns (c : Thread nD τ) scM0_0 fullShare (codesTOf (headV m c (n / 8))) ∗ owns (c : Thread nD τ) scM0_1 fullShare (lanesOf (headQ m c (n / 8))) ∗ owns (c : Thread nD τ) scM0_2 fullShare (lanesOf (headK m c (n / 8))) ∗ owns (c : Thread nD τ) scM0_3 fullShare (lanesOf (headV m c (n / 8))) ∗ (∃ d, owns (c : Thread nD τ) scM0_4 fullShare d) ∗ (∃ d, owns (c : Thread nD τ) scM0_5 fullShare d)) ∗ (∃ r, prngReg c r)) := rfl

/-- The scratch buffers before any point, their contents forgotten. -/
theorem PhiS_forget (n : ℕ) : PhiS m c n ⊢ Pipeline.ΦA spec0 c := by
  by_cases hn : n = 0
  · subst hn; exact .rfl
  rw [PhiS_pos m c n hn, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexact HS4
    iexact HS5
  iexact Hg

set_option maxHeartbeats 12800000 in
/-- A head's first tile. -/
theorem sound_first (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, PhiS_succ, show (dats m 0 c).Φ t.castSucc = PhiS m c t.val from rfl]
  rw [after0_0, after0_1, after0_2, after0_3, after0_4, after0_5, after0_6, after0_7, after0_8, after0_9]
  refine (sep_mono (PhiS_forget m c t.val) .rfl).trans ?_
  rw [PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have P := pieceA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) ((dats m 0 c).before 5 t d5) ((dats m 0 c).before 7 t d7) ((dats m 0 c).before 9 t d9) ((hcond0_0 t).mpr h0) _ rfl
  obtain ⟨P3, P4, P5, P6, P7, P8, P9, Q0, Q1, Q2, Q3⟩ := P
  have eQ : headQ m c (t.val / 8) = iblk m c 0 t := by unfold headQ; rw [headAt_div t h0]
  have eK : headK m c (t.val / 8) = iblk m c 1 t := by unfold headK; rw [headAt_div t h0]
  have eV : headV m c (t.val / 8) = iblk m c 2 t := by unfold headV; rw [headAt_div t h0]
  have e3 : tileAt m c t = blockOf (grid0.coords t) (codesOf (iblk m c 0 t)) (codesOf (iblk m c 1 t)) (codesTOf (iblk m c 2 t))
      (lanesOf (iblk m c 0 t)) (lanesOf (iblk m c 1 t)) (lanesOf (iblk m c 2 t)) := by unfold tileAt; rw [eQ, eK, eV]
  rw [table0_5 m c t h0] at P5
  rw [table0_7 m c t h0] at P7
  rw [table0_9 m c t h0] at P9
  rw [e3, eQ, eK, eV]
  iapply ((runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) ((dats m 0 c).before 5 t d5) ((dats m 0 c).before 7 t d7) ((dats m 0 c).before 9 t d9)).2.2.2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexists _; iexact H6
  isplitl [H7]; · iexact H7
  isplitl [H8]; · iexists _; iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%e4, H4⟩, ⟨%e5, H5⟩, ⟨%e6, H6⟩, ⟨%e7, H7⟩, ⟨%e8, H8⟩, ⟨%e9, H9⟩, ⟨%es0, HS0⟩, ⟨%es1, HS1⟩, ⟨%es2, HS2⟩, ⟨%es3, HS3⟩, HS4, HS5⟩
  isplitl [HS0 HS1 HS2 HS3 HS4 HS5 Hg]
  · isplitl [HS0 HS1 HS2 HS3 HS4 HS5]
    · isplitl [HS0]
      · unfold owns; iexists _; isplitr
        swap; · iexact HS0
        ipureintro; exact Q0 _
      isplitl [HS1]
      · unfold owns; iexists _; isplitr
        swap; · iexact HS1
        ipureintro; exact Q1 _
      isplitl [HS2]
      · unfold owns; iexists _; isplitr
        swap; · iexact HS2
        ipureintro; exact Q2 _
      isplitl [HS3]
      · unfold owns; iexists _; isplitr
        swap; · iexact HS3
        ipureintro; exact Q3 _
      isplitl [HS4]
      · iexact HS4
      iexact HS5
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact P3 _
  isplitl [H4]
  · unfold owns; iexists _; isplitr
    swap; · iexact H4
    ipureintro; exact P4 _
  isplitl [H5]
  · unfold owns; iexists _; isplitr
    swap; · iexact H5
    ipureintro; exact P5 _
  isplitl [H6]
  · unfold owns; iexists _; isplitr
    swap; · iexact H6
    ipureintro; exact P6 _
  isplitl [H7]
  · unfold owns; iexists _; isplitr
    swap; · iexact H7
    ipureintro; exact P7 _
  isplitl [H8]
  · unfold owns; iexists _; isplitr
    swap; · iexact H8
    ipureintro; exact P8 _
  unfold owns; iexists _; isplitr
  swap; · iexact H9
  ipureintro; exact P9 _

set_option maxHeartbeats 12800000 in
/-- A head's later tiles. -/
theorem sound_later (t : Fin cfg0.N) (h0 : ¬ t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_4 m c t h0, before0_5 m c t h0, before0_6 m c t h0, before0_7 m c t h0,
    before0_8 m c t h0, before0_9 m c t h0]
  rw [show (dats m 0 c).owesAt () t.succ = (dats m 0 c).owesAt () t.castSucc from rfl]
  rw [show (dats m 0 c).Φ t.succ = PhiS m c (t.val + 1) from rfl, PhiS_succ, show (dats m 0 c).Φ t.castSucc = PhiS m c t.val from rfl,
    PhiS_pos m c t.val (fun e => h0 (by rw [e])), show (t.val - 1) / 8 = t.val / 8 from prev_div t h0]
  rw [after0_0, after0_1, after0_2, after0_3, after0_4, after0_5, after0_6, after0_7, after0_8, after0_9]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (codesOf (headQ m c (t.val / 8))) (tableAt (headQ m c) (t.val / 8)) (codesOf (headK m c (t.val / 8))) (tableAt (headK m c) (t.val / 8)) (codesOf (headV m c (t.val / 8))) (tableAt (headV m c) (t.val / 8)) (codesTOf (headV m c (t.val / 8))) (lanesOf (headQ m c (t.val / 8))) (lanesOf (headK m c (t.val / 8))) (lanesOf (headV m c (t.val / 8)))).2 Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, H4, H5, H6, H7, H8, H9, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]
  · unfold owns; iexists _; isplitr
    swap; · iexact H3
    ipureintro
    exact pieceB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (codesOf (headQ m c (t.val / 8))) (tableAt (headQ m c) (t.val / 8)) (codesOf (headK m c (t.val / 8))) (tableAt (headK m c) (t.val / 8)) (codesOf (headV m c (t.val / 8))) (tableAt (headV m c) (t.val / 8)) (codesTOf (headV m c (t.val / 8))) (lanesOf (headQ m c (t.val / 8))) (lanesOf (headK m c (t.val / 8))) (lanesOf (headV m c (t.val / 8))) _
  isplitl [H4]; · iexact H4
  isplitl [H5]; · iexact H5
  isplitl [H6]; · iexact H6
  isplitl [H7]; · iexact H7
  isplitl [H8]; · iexact H8
  iexact H9

theorem sound_body (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · exact sound_later m c t h0

/-- What a point leaves is what the pipeline asks of it, window by window. -/
theorem bodyPost_leaves (t : Fin cfg0.N) : bodyPost m c t ⊢ iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t) := by
  unfold bodyPost
  refine BI.sep_mono (Idealize.SL.BI.Entails.refl _) (BI.sep_mono (Idealize.SL.BI.Entails.refl _) ?_)
  refine BI.sep_mono (leaves_of (dats m 0 c) 0 t (fun h => absurd ((liveAt0_0 t).symm.trans h) Bool.false_ne_true)) ?_
  refine BI.sep_mono (leaves_of (dats m 0 c) 1 t (fun h => absurd ((liveAt0_1 t).symm.trans h) Bool.false_ne_true)) ?_
  refine BI.sep_mono (leaves_of (dats m 0 c) 2 t (fun h => absurd ((liveAt0_2 t).symm.trans h) Bool.false_ne_true)) ?_
  refine BI.sep_mono (leaves_of (dats m 0 c) 3 t (fun h => absurd ((liveAt0_3 t).symm.trans h) Bool.false_ne_true)) ?_
  refine BI.sep_mono (leaves_of (dats m 0 c) 4 t (fun h => ⟨fun _ => Classical.choice inferInstance, before0_4 m c t (fun e => absurd ((liveAt0_4 t e).symm.trans h) Bool.false_ne_true) _⟩)) ?_
  refine BI.sep_mono (leaves_of (dats m 0 c) 5 t (fun h => ⟨fun _ => Classical.choice inferInstance, before0_5 m c t (fun e => absurd ((liveAt0_5 t e).symm.trans h) Bool.false_ne_true) _⟩)) ?_
  refine BI.sep_mono (leaves_of (dats m 0 c) 6 t (fun h => ⟨fun _ => Classical.choice inferInstance, before0_6 m c t (fun e => absurd ((liveAt0_6 t e).symm.trans h) Bool.false_ne_true) _⟩)) ?_
  refine BI.sep_mono (leaves_of (dats m 0 c) 7 t (fun h => ⟨fun _ => Classical.choice inferInstance, before0_7 m c t (fun e => absurd ((liveAt0_7 t e).symm.trans h) Bool.false_ne_true) _⟩)) ?_
  refine BI.sep_mono (leaves_of (dats m 0 c) 8 t (fun h => ⟨fun _ => Classical.choice inferInstance, before0_8 m c t (fun e => absurd ((liveAt0_8 t e).symm.trans h) Bool.false_ne_true) _⟩)) ?_
  exact leaves_of (dats m 0 c) 9 t (fun h => ⟨fun _ => Classical.choice inferInstance, before0_9 m c t (fun e => absurd ((liveAt0_9 t e).symm.trans h) Bool.false_ne_true) _⟩)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation : BodyObligation (dats (F := F) m 0 c) (defs₀ (F := F)) Variants.none () Set.univ := fun t => by
  rw [bigSep_W0, bigSep_W0, defs₀_row]
  exact triple_restated (sound_body m c t) rfl .rfl fun _ => bodyPost_leaves m c t

/-- The scratch buffers before the first point and after the last. -/
theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = PhiS m c (Fin.last cfg0.N).val from rfl]
  exact PhiS_forget m c _

/-! ## The run -/

set_option backward.isDefEq.respectTransparency.types false in
/-- Every weakly fair execution of the kernel terminates, each window's array at what the proof data's write-backs leave there and
    every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Printed.lean ====
/- The kernel at its floats and the kernel at exact arithmetic are one program, printed twice: the body, the body table and
   the entry are equal by unfolding, so the run proved of the one, for any floats, is a run of the other. -/
module

public import proofs.«01_k».proof.Defs
public import proofs.«01_k».proof.Proof.Gen.Kernel
public import proofs.«01_k».proof.Proof.Gen.KernelIdeal
public import proofs.«01_k».proof.Proof.Body

@[expose] public section

-- the unifier's look recurses once per line of the body
set_option maxRecDepth 65536

noncomputable section

namespace Cert.Printed

open Idealize.ShloMosaic Idealize.SL.Sem

variable {F : FTy → Type} [FloatOps F]

set_option maxHeartbeats 4000000 in
/-- The two bodies are equal. -/
theorem body_eq : @Cert.Kernel.cc0_fp8_attention F _ _ = @Cert.KernelIdeal.cc0_fp8_attention F _ _ := rfl

/-- The two body tables are equal. -/
theorem table_eq : @Cert.Kernel.defs₀ F _ _ = @Cert.KernelIdeal.defs₀ F _ _ := by
  unfold Cert.Kernel.defs₀ Cert.KernelIdeal.defs₀
  rw [body_eq]
  refine congrArg Defs.onTc (funext fun l => funext fun x => ?_)
  match l, x with
  | ⟨0, _⟩, ⟨t, s⟩ => rfl

/-- The two programs' tables are equal. -/
theorem defs_eq : @Cert.Kernel.defs F _ _ = @Cert.KernelIdeal.defs F _ _ := by
  unfold Cert.Kernel.defs
  rw [table_eq]
  rfl

/-- `kernel` runs, its arguments end unchanged and every semaphore at zero. -/
theorem quiescent : Cert.quiescent_Kernel := by
  intro m ρ _
  rw [defs_eq]
  exact Cert.KernelIdeal.Hand.frame (F := Bits) m ρ

end Cert.Printed

end
-- ==== Proof.Scale.lean ====
module

public import Idealize.ShloMosaic.PureOps.Ideal.Laws
public import Idealize.ShloMosaic.Lib.Pointwise.Tactic

@[expose] public section

set_option maxRecDepth 16384

noncomputable section

namespace Cert.Scale

open Idealize.ShloMosaic

/-! The power-of-two scale of a largest magnitude, as the kernel finds it (a search for the exponent field, and a float built
    from a field) and as the least power of two above it: the two are one number, and so are the two inverses. -/

/-- The value of the f32 pattern whose exponent field is `b` and whose other bits are zero. -/
def fl (b : ℕ) : EReal := Ideal.ofBits .f32 (BitVec.ofNat 32 (b * 8388608))

theorem fields : ∀ b : Fin 256, (BitVec.ofNat 32 (b.val * 8388608)).extractLsb' 31 1 = 0#1
    ∧ ((BitVec.ofNat 32 (b.val * 8388608)).extractLsb' 23 8).toNat = b.val
    ∧ ((BitVec.ofNat 32 (b.val * 8388608)).extractLsb' 0 23).toNat = 0 := by decide +kernel

/-- Zero at field 0, infinity at field 255, `2 ^ (b - 127)` between. -/
theorem fl_eq {b : ℕ} (hb : b ≤ 255) :
    fl b = if b = 255 then ⊤ else if b = 0 then 0 else (((2 : ℝ) ^ ((b : ℤ) - 127) : ℝ) : EReal) := by
  obtain ⟨h1, h2, h3⟩ := fields ⟨b, by omega⟩
  dsimp only at h1 h2 h3
  have e : fl b = Ideal.ieee 8 23 (BitVec.ofNat 32 (b * 8388608)) := rfl
  rw [e]; unfold Ideal.ieee
  simp only [Nat.reduceAdd]
  simp only [h1, h2, h3]
  by_cases h255 : b = 255
  · subst h255; simp
  · by_cases h0 : b = 0
    · subst h0; simp
    · rw [if_neg (by simpa using h255), if_neg h0, if_neg h255, if_neg h0]
      congr 1
      have h8 : ((2 ^ 23 + 0 : ℕ) : ℝ) = (2 : ℝ) ^ (23 : ℤ) := by norm_num
      rw [h8]
      simp only [show ((0#1 : BitVec 1) == 1#1) = false from rfl, Bool.false_eq_true, if_false, one_mul]
      rw [← zpow_add₀ (by norm_num : (2 : ℝ) ≠ 0)]
      congr 1
      norm_num

theorem fl_zero : fl 0 = 0 := by rw [fl_eq (by omega)]; simp
theorem fl_top : fl 255 = ⊤ := by rw [fl_eq (by omega)]; simp
theorem fl_mid {b : ℕ} (h0 : 0 < b) (h1 : b < 255) : fl b = (((2 : ℝ) ^ ((b : ℤ) - 127) : ℝ) : EReal) := by
  rw [fl_eq (by omega), if_neg (by omega), if_neg (by omega)]

/-- A larger field, a larger value. -/
theorem fl_lt {a b : ℕ} (hab : a < b) (hb : b ≤ 255) : fl a < fl b := by
  rcases Nat.eq_zero_or_pos a with rfl | ha
  · rw [fl_zero]
    rcases Nat.lt_or_ge b 255 with hb' | hb'
    · rw [fl_mid hab hb']; exact_mod_cast zpow_pos (by norm_num : (0 : ℝ) < 2) _
    · obtain rfl : b = 255 := by omega
      rw [fl_top]; exact EReal.coe_lt_top 0
  · rw [fl_mid ha (by omega)]
    rcases Nat.lt_or_ge b 255 with hb' | hb'
    · rw [fl_mid (by omega) hb']
      exact EReal.coe_lt_coe_iff.mpr
        (zpow_lt_zpow_right₀ (by norm_num : (1 : ℝ) < 2) (by omega : (a : ℤ) - 127 < (b : ℤ) - 127))
    · obtain rfl : b = 255 := by omega
      rw [fl_top]; exact EReal.coe_lt_top _

theorem fl_le {a b : ℕ} (hab : a ≤ b) (hb : b ≤ 255) : fl a ≤ fl b := by
  rcases Nat.eq_or_lt_of_le hab with rfl | h
  · exact le_rfl
  · exact (fl_lt h hb).le

/-! ## The search -/

/-- One rung of the kernel's search, on one element. -/
def rung (b : BitVec 32) (t : EReal) (u : BitVec 32) : BitVec 32 :=
  Scalar.select (Ideal.cmp .ole (Ideal.ofBits .f32 (IntOp.addi u b)) t) (IntOp.addi u b) u

/-- The exponent field the kernel's search finds, in its place. -/
def search (t : EReal) : BitVec 32 :=
  rung 8388608#32 t (rung 16777216#32 t (rung 33554432#32 t (rung 67108864#32 t (rung 134217728#32 t
    (rung 268435456#32 t (rung 536870912#32 t (rung 1073741824#32 t 0#32)))))))

theorem rung_inv {t : EReal} (w B : ℕ) (hw : 0 < w) (h1 : B + 2 * w ≤ 256) (h2 : fl B ≤ t) (h3 : B + 2 * w ≤ 255 → t < fl (B + 2 * w)) :
    ∃ B', rung (BitVec.ofNat 32 (w * 8388608)) t (BitVec.ofNat 32 (B * 8388608)) = BitVec.ofNat 32 (B' * 8388608)
      ∧ B' + w ≤ 256 ∧ fl B' ≤ t ∧ (B' + w ≤ 255 → t < fl (B' + w)) := by
  have e : IntOp.addi (BitVec.ofNat 32 (B * 8388608)) (BitVec.ofNat 32 (w * 8388608)) = BitVec.ofNat 32 ((B + w) * 8388608) := by
    unfold IntOp.addi; rw [← BitVec.ofNat_add, Nat.add_mul]
  unfold rung; rw [e]
  by_cases hle : fl (B + w) ≤ t
  · refine ⟨B + w, ?_, by omega, hle, fun h => ?_⟩
    · unfold Scalar.select Ideal.cmp
      rw [if_pos]; dsimp only; rw [decide_eq_true (show Ideal.ofBits .f32 _ ≤ t from hle)]; rfl
    · rw [show B + w + w = B + 2 * w from by omega]; exact h3 (by omega)
  · refine ⟨B, ?_, by omega, h2, fun _ => not_le.mp hle⟩
    unfold Scalar.select Ideal.cmp
    rw [if_neg]; dsimp only; rw [decide_eq_false (show ¬ Ideal.ofBits .f32 _ ≤ t from hle)]; decide

/-- The search finds the greatest field whose value is at most `t`. -/
theorem search_spec {t : EReal} (ht : 0 ≤ t) :
    ∃ B, B ≤ 255 ∧ search t = BitVec.ofNat 32 (B * 8388608) ∧ fl B ≤ t ∧ (B < 255 → t < fl (B + 1)) := by
  obtain ⟨b7, e7, x7, y7, z7⟩ := rung_inv (t := t) 128 0 (by omega) (by omega) (by rw [fl_zero]; exact ht) (by omega)
  obtain ⟨b6, e6, x6, y6, z6⟩ := rung_inv (t := t) 64 b7 (by omega) x7 y7 z7
  obtain ⟨b5, e5, x5, y5, z5⟩ := rung_inv (t := t) 32 b6 (by omega) x6 y6 z6
  obtain ⟨b4, e4, x4, y4, z4⟩ := rung_inv (t := t) 16 b5 (by omega) x5 y5 z5
  obtain ⟨b3, e3, x3, y3, z3⟩ := rung_inv (t := t) 8 b4 (by omega) x4 y4 z4
  obtain ⟨b2, e2, x2, y2, z2⟩ := rung_inv (t := t) 4 b3 (by omega) x3 y3 z3
  obtain ⟨b1, e1, x1, y1, z1⟩ := rung_inv (t := t) 2 b2 (by omega) x2 y2 z2
  obtain ⟨b0, e0, x0, y0, z0⟩ := rung_inv (t := t) 1 b1 (by omega) x1 y1 z1
  norm_num at e7 e6 e5 e4 e3 e2 e1 e0
  refine ⟨b0, by omega, ?_, y0, fun h => z0 (by omega)⟩
  unfold search
  rw [e7, e6, e5, e4, e3, e2, e1, e0]

/-! ## The kernel's scale and its inverse -/

/-- The kernel's exponent, from a largest magnitude. -/
def expo (a : EReal) : BitVec 32 :=
  Scalar.select (Ideal.cmp .oeq a (Ideal.ofBits .f32 0x00000000#32)) 0#32
    (Scalar.select (IntOp.ori
        (IntOp.cmpi .eq (IntOp.andi (IntOp.shrsi .vector (search (a * Ideal.ofBits .f32 0x3B124925#32)) 23#32) 255#32) 0#32)
        (IntOp.cmpi .eq (IntOp.andi (IntOp.shrsi .vector (search (a * Ideal.ofBits .f32 0x3B124925#32)) 23#32) 255#32) 255#32)) 0#32
      (IntOp.subi (IntOp.andi (IntOp.shrsi .vector (search (a * Ideal.ofBits .f32 0x3B124925#32)) 23#32) 255#32) 126#32))

/-- The pattern the kernel builds for `2 ^ n`. -/
def powWord (n : BitVec 32) : BitVec 32 :=
  Scalar.select (IntOp.cmpi .sle (IntOp.addi n 127#32) 0#32) 0#32
    (Scalar.select (IntOp.cmpi .sge (IntOp.addi n 127#32) 255#32) 2139095040#32 (IntOp.shli .vector (IntOp.addi n 127#32) 23#32))

/-- The kernel's scale of a largest magnitude. -/
def kscale (a : EReal) : EReal := Ideal.ofBits .f32 (powWord (expo a))

/-- The kernel's inverse scale. -/
def kinv (a : EReal) : EReal := Ideal.ofBits .f32 (powWord (IntOp.subi 0#32 (expo a)))

/-- The exponent from a field. -/
def expoField (B : ℕ) : BitVec 32 :=
  Scalar.select (IntOp.ori
        (IntOp.cmpi .eq (IntOp.andi (IntOp.shrsi .vector (BitVec.ofNat 32 (B * 8388608)) 23#32) 255#32) 0#32)
        (IntOp.cmpi .eq (IntOp.andi (IntOp.shrsi .vector (BitVec.ofNat 32 (B * 8388608)) 23#32) 255#32) 255#32)) 0#32
      (IntOp.subi (IntOp.andi (IntOp.shrsi .vector (BitVec.ofNat 32 (B * 8388608)) 23#32) 255#32) 126#32)

theorem words : ∀ B : Fin 256,
    powWord (expoField B.val) = BitVec.ofNat 32 ((if B.val = 0 ∨ B.val = 255 then 127 else B.val + 1) * 8388608)
    ∧ powWord (IntOp.subi 0#32 (expoField B.val)) = BitVec.ofNat 32 ((if B.val = 0 ∨ B.val = 255 then 127 else 253 - B.val) * 8388608) := by
  decide +kernel

theorem expoField_zero : expoField 0 = 0#32 := by decide +kernel

/-- The factor `1 / 448` is not negative. -/
theorem c448_nonneg : (0 : EReal) ≤ Ideal.ofBits .f32 0x3B124925#32 := by
  show 0 ≤ Ideal.ieee 8 23 0x3B124925#32
  unfold Ideal.ieee
  simp only [Nat.reduceAdd]
  rw [show BitVec.extractLsb' 31 1 0x3B124925#32 = 0#1 from by decide,
    show (BitVec.extractLsb' 23 8 0x3B124925#32).toNat = 118 from by decide]
  norm_num

/-- What a largest magnitude's field gives. -/
theorem kernel_spec {a : EReal} (ha : 0 ≤ a) :
    ∃ B, B ≤ 255 ∧ fl B ≤ a * Ideal.ofBits .f32 0x3B124925#32 ∧ (B < 255 → a * Ideal.ofBits .f32 0x3B124925#32 < fl (B + 1))
      ∧ kscale a = fl (if B = 0 ∨ B = 255 then 127 else B + 1) ∧ kinv a = fl (if B = 0 ∨ B = 255 then 127 else 253 - B) := by
  obtain ⟨B, hB, hs, h1, h2⟩ := search_spec (mul_nonneg ha c448_nonneg)
  have he : expo a = expoField B := by
    unfold expo; rw [hs]
    by_cases h0 : a = 0
    · have hB0 : B = 0 := by
        by_contra hne
        have : fl 0 < fl B := fl_lt (by omega) hB
        rw [fl_zero] at this
        rw [h0, zero_mul] at h1
        exact absurd (lt_of_lt_of_le this h1) (lt_irrefl _)
      subst hB0
      rw [show Ideal.ofBits .f32 0x00000000#32 = 0 from Ideal.ofBits_zero_f32, expoField_zero]
      unfold Scalar.select Ideal.cmp
      rw [if_pos]; dsimp only; rw [decide_eq_true h0]; rfl
    · rw [show Ideal.ofBits .f32 0x00000000#32 = 0 from Ideal.ofBits_zero_f32]
      unfold expoField
      rw [Scalar.select, if_neg]
      unfold Ideal.cmp; dsimp only; rw [decide_eq_false h0]; decide
  obtain ⟨w1, w2⟩ := words ⟨B, by omega⟩
  refine ⟨B, hB, h1, h2, ?_, ?_⟩
  · unfold kscale; rw [he, w1]; rfl
  · unfold kinv; rw [he, w2]; rfl

/-! ## The least power of two above -/

/-- The powers of two the reference picks from. -/
def power (j : Fin 253) : EReal := Ideal.pow (Ideal.ofBits .f32 0x40000000#32) (((BitVec.ofNat 32 (4294967171 + j.val)).toInt : ℝ) : EReal)

theorem power_int : ∀ j : Fin 253, (BitVec.ofNat 32 (4294967171 + j.val)).toInt = (j.val : ℤ) - 125 := by decide +kernel

theorem fl_128 : fl 128 = ((2 : ℝ) : EReal) := by rw [fl_mid (by omega) (by omega)]; norm_num

theorem power_eq (j : Fin 253) : power j = fl (j.val + 2) := by
  unfold power
  rw [power_int, show Ideal.ofBits .f32 0x40000000#32 = fl 128 from rfl, fl_128, Ideal.pow_coe_coe, fl_mid (by omega) (by omega)]
  congr 1
  show Real.rpow 2 _ = _
  rw [← Real.rpow_intCast]
  push_cast
  rw [Real.rpow_eq_pow]
  congr 1
  ring

/-- The reference's scale of a largest magnitude. -/
def rscale (a : EReal) : EReal :=
  Scalar.select (IntOp.ori (Ideal.cmp .olt (a * Ideal.ofBits .f32 0x3B124925#32) (Ideal.ofBits .f32 0x00800000#32))
      (Ideal.cmp .oeq (a * Ideal.ofBits .f32 0x3B124925#32) (Ideal.ofBits .f32 0x7F800000#32)))
    (Ideal.ofBits .f32 0x3F800000#32)
    (Finset.univ.fold min (Ideal.ofBits .f32 0x7F800000#32) fun j : Fin 253 =>
      Scalar.select (Ideal.cmp .ogt (power j) (a * Ideal.ofBits .f32 0x3B124925#32)) (power j) (Ideal.ofBits .f32 0x7F800000#32))

/-- The reference's inverse of a scale. -/
def rinv (s : EReal) : EReal :=
  Scalar.select (Ideal.cmp .oge s (Ideal.ofBits .f32 0x7F000000#32)) (Ideal.ofBits .f32 0x00000000#32)
    (Ideal.div (Ideal.ofBits .f32 0x3F800000#32) s)

theorem select_ofBool {α : Type} (p : Prop) [Decidable p] (x y : α) : Scalar.select (BitVec.ofBool (decide p)) x y = if p then x else y := by
  by_cases h : p
  · simp [Scalar.select, h]
  · simp [Scalar.select, h]

theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [IntOp.ori, hp, hq]

theorem fold_min_eq {n : ℕ} (f : Fin n → EReal) (b m : EReal) (h1 : m ≤ b) (h2 : ∀ j, m ≤ f j) (h3 : m = b ∨ ∃ j, f j ≤ m) :
    Finset.univ.fold min b f = m := by
  apply le_antisymm
  · rw [Finset.fold_min_le]
    rcases h3 with h | ⟨j, hj⟩
    · exact .inl h.ge
    · exact .inr ⟨j, Finset.mem_univ _, hj⟩
  · rw [Finset.le_fold_min]
    exact ⟨h1, fun j _ => h2 j⟩

/-- The two scales are one. -/
theorem rscale_eq {a : EReal} (ha : 0 ≤ a) : rscale a = kscale a := by
  obtain ⟨B, hB, h1, h2, hs, -⟩ := kernel_spec ha
  rw [hs]
  unfold rscale Ideal.cmp
  dsimp only
  rw [ori_ofBool, select_ofBool]
  set t := a * Ideal.ofBits .f32 0x3B124925#32 with ht
  rw [show Ideal.ofBits .f32 0x00800000#32 = fl 1 from rfl, show Ideal.ofBits .f32 0x7F800000#32 = fl 255 from rfl,
    show Ideal.ofBits .f32 0x3F800000#32 = fl 127 from rfl]
  by_cases hb : B = 0 ∨ B = 255
  · rw [if_pos hb, if_pos]
    rcases hb with rfl | rfl
    · exact .inl (h2 (by omega))
    · right; rw [fl_top] at h1 ⊢; exact top_le_iff.mp h1
  · rw [if_neg hb, if_neg]
    · simp only [select_ofBool, power_eq]
      refine fold_min_eq _ _ _ (fl_le (by omega) le_rfl) (fun j => ?_) ?_
      · split_ifs with hj
        · refine fl_le ?_ (by omega)
          by_contra hlt
          exact absurd (lt_of_lt_of_le hj (le_trans (fl_le (show j.val + 2 ≤ B by omega) hB) h1)) (lt_irrefl _)
        · exact fl_le (by omega) le_rfl
      · by_cases hB4 : B = 254
        · left; rw [hB4]
        · right
          refine ⟨⟨B - 1, by omega⟩, ?_⟩
          have e : B - 1 + 2 = B + 1 := by omega
          dsimp only; rw [e, if_pos (h2 (by omega))]
    · rintro (h | h)
      · exact absurd (lt_of_lt_of_le h (le_trans (fl_le (show 1 ≤ B by omega) hB) h1)) (lt_irrefl _)
      · have := h2 (by omega)
        rw [h] at this
        exact absurd (lt_of_lt_of_le this (fl_le (show B + 1 ≤ 255 by omega) le_rfl)) (lt_irrefl _)

theorem div_one_fl {b c : ℕ} (hb : 0 < b) (hb' : b < 254) (hc : b + c = 254) : Ideal.div (fl 127) (fl b) = fl c := by
  rw [fl_mid hb (by omega), Ideal.div_coe (zpow_ne_zero _ (by norm_num)), fl_mid (by omega) (by omega), fl_mid (by omega) (by omega)]
  rw [← EReal.coe_mul]
  congr 1
  rw [one_div, ← zpow_neg, ← zpow_add₀ (by norm_num : (2 : ℝ) ≠ 0)]
  congr 1
  push_cast
  omega

/-- The two inverses are one. -/
theorem rinv_eq {a : EReal} (ha : 0 ≤ a) : rinv (rscale a) = kinv a := by
  rw [rscale_eq ha]
  obtain ⟨B, hB, h1, h2, hs, hi⟩ := kernel_spec ha
  rw [hs, hi]
  unfold rinv Ideal.cmp
  dsimp only
  rw [select_ofBool]
  rw [show Ideal.ofBits .f32 0x7F000000#32 = fl 254 from rfl, show Ideal.ofBits .f32 0x00000000#32 = fl 0 from rfl,
    show Ideal.ofBits .f32 0x3F800000#32 = fl 127 from rfl]
  by_cases hb : B = 0 ∨ B = 255
  · rw [if_pos hb, if_pos hb, if_neg (not_le.mpr (fl_lt (by omega) (by omega)))]
    exact div_one_fl (by omega) (by omega) (by omega)
  · rw [if_neg hb, if_neg hb]
    by_cases h : 253 ≤ B
    · rw [if_pos (fl_le (by omega) (by omega)), show 253 - B = 0 by omega]
    · rw [if_neg (not_le.mpr (fl_lt (by omega) (by omega)))]
      exact div_one_fl (by omega) (by omega) (by omega)

/-- A scale is not negative. -/
theorem kscale_nonneg {a : EReal} (ha : 0 ≤ a) : 0 ≤ kscale a := by
  obtain ⟨B, hB, -, -, hs, -⟩ := kernel_spec ha
  rw [hs, ← fl_zero]
  exact fl_le (Nat.zero_le _) (by split_ifs <;> omega)

end Cert.Scale

end
-- ==== Proof.Spec.lean ====
module

public import proofs.«01_k».proof.Proof.Scale

@[expose] public section

set_option maxRecDepth 16384

noncomputable section

namespace Cert.Spec

open Idealize.ShloMosaic Cert.Scale

/-! One head of the attention over the extended reals, in the order of the kernel's arithmetic: the quantisation of the head's
    sixteen blocks of 128 tokens, and one query's attention over the codes. -/

/-- The least value a maximum starts from. -/
def low : EReal := Ideal.ofBits .f32 0xFF800000#32

theorem low_eq : low = ⊥ := by
  show Ideal.ieee 8 23 0xFF800000#32 = ⊥
  unfold Ideal.ieee
  simp only [Nat.reduceAdd]
  rw [show BitVec.extractLsb' 31 1 0xFF800000#32 = 1#1 from by decide,
    show (BitVec.extractLsb' 23 8 0xFF800000#32).toNat = 255 from by decide,
    show (BitVec.extractLsb' 0 23 0xFF800000#32).toNat = 0 from by decide]
  simp

/-- The clip to `[-448, 448]`. -/
def clip1 (v : EReal) : EReal := min (Ideal.ofBits .f32 0x43E00000#32) (max (Ideal.ofBits .f32 0xC3E00000#32) v)

section Tokens

variable (X : Fin 16 → Fin 128 → Fin 128 → EReal)

/-- A block's largest magnitude. -/
def top (n : Fin 16) : EReal :=
  Finset.univ.fold max low fun d : Fin 128 => Finset.univ.fold max low fun r : Fin 128 => max (X n r d) (-(X n r d))

/-- A block's scale. -/
def scale (n : Fin 16) : EReal := kscale (top X n)

/-- A token's code at a coordinate. -/
def code (n : Fin 16) (r d : Fin 128) : EReal := clip1 (X n r d * kinv (top X n))

theorem fold_max_eq_sup {ι : Type} (s : Finset ι) (f : ι → EReal) : s.fold max low f = s.sup f := by rw [low_eq]; rfl

theorem abs_nonneg (x : EReal) : 0 ≤ max x (-x) := by
  rcases le_total 0 x with h | h
  · exact le_max_of_le_left h
  · exact le_max_of_le_right (by simpa using EReal.neg_le_neg_iff.mpr h)

theorem top_nonneg (n : Fin 16) : 0 ≤ top X n := by
  unfold top
  simp only [fold_max_eq_sup]
  refine le_trans (abs_nonneg (X n 0 0)) ?_
  exact le_trans (Finset.le_sup (f := fun r => max (X n r 0) (-(X n r 0))) (Finset.mem_univ 0))
    (Finset.le_sup (f := fun d => Finset.univ.sup fun r => max (X n r d) (-(X n r d))) (Finset.mem_univ 0))

end Tokens

section Query

variable (q : Fin 128 → EReal) (sq : EReal) (K V : Fin 16 → Fin 128 → Fin 128 → EReal) (sk sv : Fin 16 → EReal)

/-- A key's raw score. -/
def raw (n : Fin 16) (t : Fin 128) : EReal := ∑ d : Fin 128, K n t d * q d

/-- The factor of a key block's scores: both scales and the softmax's. -/
def coef (n : Fin 16) : EReal := sq * Ideal.ofBits .f32 0x3DB504F3#32 * sk n

/-- The largest score. -/
def peak : EReal := Finset.univ.fold max low fun n : Fin 16 => (Finset.univ.fold max low fun t : Fin 128 => raw q K n t) * coef sq sk n

/-- A key's weight. -/
def weight (n : Fin 16) (t : Fin 128) : EReal := Ideal.exp (raw q K n t * coef sq sk n - peak q sq K sk)

/-- The sum of the weights. -/
def total : EReal := ∑ n : Fin 16, ∑ t : Fin 128, weight q sq K sk n t

/-- A key block's largest weight. -/
def wtop (n : Fin 16) : EReal := Finset.univ.fold max low fun t : Fin 128 => weight q sq K sk n t

/-- A weight's code. -/
def wcode (n : Fin 16) (t : Fin 128) : EReal := clip1 (weight q sq K sk n t * kinv (wtop q sq K sk n))

/-- The weighted sum of the values, not yet over the weights' sum. -/
def mix (d : Fin 128) : EReal :=
  ∑ n : Fin 16, (∑ t : Fin 128, V n t d * wcode q sq K sk n t) * (kscale (wtop q sq K sk n) * sv n)

/-- A query's result at a coordinate. -/
def out (d : Fin 128) : EReal := Ideal.div (mix q sq K V sk sv d) (total q sq K sk)

end Query

end Cert.Spec

end
-- ==== Proof.Read.lean ====
module

public import proofs.«01_k».proof.Proof.Ops
public import proofs.«01_k».proof.Proof.Spec
public import Idealize.ShloMosaic.Lib.Pointwise

@[expose] public section

set_option maxRecDepth 16384

noncomputable section

namespace Cert.KernelIdeal.Hand

open Cert.KernelIdeal Cert.KernelIdeal.Gen Cert.Scale Cert.Spec
open Idealize.ShloMosaic Idealize.ShloMosaic.TcCoe

/-! The body's functions read at an index over the extended reals. -/

theorem step_apply {s : Shape} (b : BitVec 32) (t : FVec Ideal s .f32) (u : IVec s 32) (j : s.Idx) :
    step b t u j = rung b (t j) (u j) := by unfold step rung; pointwise

theorem bitsOf_apply {s : Shape} (t : FVec Ideal s .f32) (j : s.Idx) : bitsOf t j = search (t j) := by
  unfold bitsOf search; simp only [step_apply]; rfl

theorem fieldOf_apply {s : Shape} (a : FVec Ideal s .f32) (j : s.Idx) :
    fieldOf a j = IntOp.andi (IntOp.shrsi .vector (search (a j * Ideal.ofBits .f32 0x3B124925#32)) 23#32) 255#32 := by
  rw [← show mulf a (broadcast s (Scalar.ofBits .f32 0x3B124925#32)) j = a j * Ideal.ofBits .f32 0x3B124925#32 from rfl,
    ← bitsOf_apply]; rfl

theorem expOf_apply {s : Shape} (a : FVec Ideal s .f32) (j : s.Idx) : expOf a j = expo (a j) := by
  unfold expo; rw [← fieldOf_apply]; rfl

theorem pow2Of_apply {s : Shape} (n : IVec s 32) (j : s.Idx) : pow2Of (F := Ideal) n j = Ideal.ofBits .f32 (powWord (n j)) := rfl

/-- The scale of a largest magnitude. -/
theorem kscale_apply {s : Shape} (a : FVec Ideal s .f32) (j : s.Idx) : pow2Of (F := Ideal) (expOf a) j = kscale (a j) := by
  rw [pow2Of_apply, expOf_apply]; rfl

/-- The inverse scale of a largest magnitude. -/
theorem kinv_apply {s : Shape} (a : FVec Ideal s .f32) (j : s.Idx) : pow2Of (F := Ideal) (negOf (expOf a)) j = kinv (a j) := by
  rw [pow2Of_apply, show negOf (expOf a) j = IntOp.subi 0#32 (expOf a j) from rfl, expOf_apply]; rfl

section Tokens

variable (x : Vec Ideal S1x2048x128 .bf16)

/-- A head's tokens by block, row and coordinate. -/
def toks (n : Fin 16) (r d : Fin 128) : EReal := x (ix3 0 ⟨n.val * 128 + r.val, by omega⟩ d)

theorem tokens_apply (n : Fin 16) (r d : Fin 128) : tokens (F := Ideal) x (ix3 n r d) = toks x n r d := by
  unfold tokens k0_pay3 toks
  pointwise

theorem amaxOf_apply (n : Fin 16) : amaxOf (F := Ideal) x (ix2 n 0) = top (toks x) n := by
  have e : ∀ n r d, k0_pay3 (F := Ideal) x (ix3 n r d) = toks x n r d := tokens_apply x
  unfold amaxOf k0_pay4
  pointwise
  simp only [e]
  rfl

theorem scaleOf_apply (n : Fin 16) : scaleOf (F := Ideal) x (ix2 n 0) = scale (toks x) n := by
  unfold scaleOf; rw [kscale_apply, amaxOf_apply]; rfl

theorem quantOf_apply (i : Fin 2048) (d : Fin 128) :
    quantOf (F := Ideal) x (ix2 i d) = code (toks x) ⟨i.val / 128, by omega⟩ ⟨i.val % 128, by omega⟩ d := by
  unfold quantOf clip
  pointwise
  rw [tokens_apply, kinv_apply, amaxOf_apply]
  rfl

theorem codesOf_apply (i : Fin 2048) (d : Fin 128) :
    codesOf (F := Ideal) x (ix3 0 i d) = code (toks x) ⟨i.val / 128, by omega⟩ ⟨i.val % 128, by omega⟩ d := by
  rw [← quantOf_apply]
  unfold codesOf
  pointwise

theorem codesTOf_apply (i : Fin 2048) (d : Fin 128) :
    codesTOf (F := Ideal) x (ix2 d i) = code (toks x) ⟨i.val / 128, by omega⟩ ⟨i.val % 128, by omega⟩ d := by
  rw [← quantOf_apply]
  unfold codesTOf
  pointwise

theorem lanesOf_apply (n : Fin 16) (d : Fin 128) : lanesOf (F := Ideal) x (ix2 n d) = scale (toks x) n := by
  rw [← scaleOf_apply]
  unfold lanesOf k0_pay34
  pointwise

theorem tableOf_apply (h : BitVec 32) (old : Vec Ideal S1x16x32 .f32) (n : Fin 16) (l : Fin 32) :
    tableOf (F := Ideal) x h old (ix3 0 n l) = Scalar.select (IntOp.cmpi .eq (BitVec.ofNat 32 l.val) h) (scale (toks x) n)
      (Scalar.select (Scalar.cmpi .eq h 0#32) 0 (old (ix3 0 n l))) := by
  rw [← scaleOf_apply]
  unfold tableOf k0_pay31
  pointwise

end Tokens

section Tile

variable (qt : Vec Ideal S1x256x128 .fp8e4m3) (kc : Vec Ideal S1x2048x128 .fp8e4m3) (vt : Vec Ideal S128x2048 .fp8e4m3)
variable (q0 q1 : Vec Ideal S1x128 .f32) (kl vl : Vec Ideal S16x128 .f32)

/-- A query's code. -/
def qrow (j : Fin 256) (d : Fin 128) : EReal := qt (ix3 0 j d)

/-- Its scale. -/
def qsc (j : Fin 256) : EReal := if h : j.val < 128 then q0 (ix2 0 ⟨j.val, h⟩) else q1 (ix2 0 ⟨j.val - 128, by omega⟩)

/-- The key codes by block. -/
def kblk (n : Fin 16) (t d : Fin 128) : EReal := kc (ix3 0 ⟨n.val * 128 + t.val, by omega⟩ d)

/-- The value codes by block. -/
def vblk (n : Fin 16) (t d : Fin 128) : EReal := vt (ix2 d ⟨n.val * 128 + t.val, by omega⟩)

/-- A block's scale, as the lane of a query holds it. -/
def lane (kl : Vec Ideal S16x128 .f32) (j : Fin 256) (n : Fin 16) : EReal :=
  if h : j.val < 128 then kl (ix2 n ⟨j.val, h⟩) else kl (ix2 n ⟨j.val - 128, by omega⟩)

theorem dot_apply (n : Fin 16) (t : Fin 128) (j : Fin 256) :
    k0_pay38 (F := Ideal) qt kc (ix2 ⟨n.val * 128 + t.val, by omega⟩ j) = raw (qrow qt j) (kblk kc) n t := by
  unfold k0_pay38 raw qrow kblk
  pointwise

theorem rawOf_apply (n : Fin 16) (t : Fin 128) (j : Fin 256) :
    rawOf qt kc (ix2 ⟨n.val * 128 + t.val, by omega⟩ j) = raw (qrow qt j) (kblk kc) n t := by
  rw [← dot_apply]
  unfold rawOf k0_pay39
  pointwise

theorem coefOf_apply (n : Fin 16) (j : Fin 256) :
    coefOf q0 q1 kl (ix2 n j) = coef (qsc q0 q1 j) (lane kl j) n := by
  unfold coefOf k0_pay41 coef qsc lane
  pointwise

theorem lanes2_apply (n : Fin 16) (j : Fin 256) : k0_pay40 (F := Ideal) vl (ix2 n j) = lane vl j n := by
  unfold k0_pay40 lane
  pointwise

theorem maxOf_apply (j : Fin 256) :
    maxOf qt kc q0 q1 kl (ix2 0 j) = peak (qrow qt j) (qsc q0 q1 j) (kblk kc) (lane kl j) := by
  have e : ∀ n j, k0_pay41 (F := Ideal) q0 q1 kl (ix2 n j) = _ := coefOf_apply q0 q1 kl
  unfold maxOf k0_pay43 k0_pay42
  pointwise
  simp only [e, dot_apply]
  rfl

theorem rowOf_apply (n : ℕ) (hn : n < 16) (v : FVec Ideal S16x256 .f32) (j : Fin 256) : rowOf n hn v (ix2 0 j) = v (ix2 ⟨n, hn⟩ j) := by
  unfold rowOf
  pointwise

theorem keyRows_apply (n : ℕ) (hn : n < 16) (v : Vec Ideal S2048x256 .f32) (t : Fin 128) (j : Fin 256) :
    keyRows n hn v (ix2 t j) = v (ix2 ⟨n * 128 + t.val, by omega⟩ j) := by
  unfold keyRows
  pointwise
  exact congrArg v (congrArg (ix2 · j) (Fin.ext (by dsimp only; omega)))

theorem valueCols_apply (n : ℕ) (hn : n < 16) (v : Vec Ideal S128x2048 .fp8e4m3) (t d : Fin 128) :
    valueCols n hn v (ix2 d t) = v (ix2 d ⟨n * 128 + t.val, by omega⟩) := by
  unfold valueCols
  pointwise
  exact congrArg v (congrArg (ix2 d ·) (Fin.ext (by dsimp only; omega)))

theorem weights_apply (n : ℕ) (hn : n < 16) (t : Fin 128) (j : Fin 256) :
    weights qt kc q0 q1 kl n hn (ix2 t j) = weight (qrow qt j) (qsc q0 q1 j) (kblk kc) (lane kl j) ⟨n, hn⟩ t := by
  unfold weights probOf weight
  pointwise
  rw [keyRows_apply, rowOf_apply, maxOf_apply, coefOf_apply, rawOf_apply qt kc ⟨n, hn⟩]

theorem sumOf_apply (p : FVec Ideal S128x256 .f32) (j : Fin 256) : sumOf p (ix2 0 j) = ∑ t : Fin 128, p (ix2 t j) := by
  unfold sumOf
  pointwise

theorem topOf_apply (p : FVec Ideal S128x256 .f32) (j : Fin 256) :
    topOf p (ix2 0 j) = Finset.univ.fold max low fun t : Fin 128 => p (ix2 t j) := by
  unfold topOf
  pointwise
  rfl

theorem pquantOf_apply (p : FVec Ideal S128x256 .f32) (t : Fin 128) (j : Fin 256) :
    pquantOf p (ix2 t j) = clip1 (p (ix2 t j) * kinv (Finset.univ.fold max low fun t : Fin 128 => p (ix2 t j))) := by
  unfold pquantOf clip
  pointwise
  rw [kinv_apply, topOf_apply]
  rfl

theorem partOf_apply (p : FVec Ideal S128x256 .f32) (vn : Vec Ideal S128x128 .fp8e4m3) (sn : FVec Ideal S1x256 .f32) (d : Fin 128)
    (j : Fin 256) :
    partOf p vn sn (ix2 d j) = (∑ t : Fin 128, vn (ix2 d t) * pquantOf p (ix2 t j)) *
      (kscale (Finset.univ.fold max low fun t : Fin 128 => p (ix2 t j)) * sn (ix2 0 j)) := by
  unfold partOf
  pointwise
  rw [kscale_apply, topOf_apply]

theorem part_apply (n : ℕ) (hn : n < 16) (d : Fin 128) (j : Fin 256) :
    part qt kc vt q0 q1 kl vl n hn (ix2 d j)
      = (∑ t : Fin 128, vblk vt ⟨n, hn⟩ t d * wcode (qrow qt j) (qsc q0 q1 j) (kblk kc) (lane kl j) ⟨n, hn⟩ t)
        * (kscale (wtop (qrow qt j) (qsc q0 q1 j) (kblk kc) (lane kl j) ⟨n, hn⟩) * lane vl j ⟨n, hn⟩) := by
  unfold part
  rw [partOf_apply]
  simp only [pquantOf_apply, weights_apply, valueCols_apply, rowOf_apply, lanes2_apply]
  rfl

theorem denom_apply (j : Fin 256) : ∀ (n : ℕ) (hn : n < 16), denom qt kc q0 q1 kl n hn (ix2 0 j)
      = ∑ k : Fin (n + 1), ∑ t : Fin 128, weight (qrow qt j) (qsc q0 q1 j) (kblk kc) (lane kl j) ⟨k.val, by omega⟩ t
  | 0, hn => by
    unfold denom
    pointwise
    rw [sumOf_apply, Fin.sum_univ_one]
    simp only [weights_apply]
    rfl
  | n + 1, hn => by
    unfold denom
    pointwise
    rw [sumOf_apply, denom_apply j n _, Fin.sum_univ_castSucc (n := n + 1)]
    simp only [weights_apply]
    rfl

theorem numer_apply (d : Fin 128) (j : Fin 256) : ∀ (n : ℕ) (hn : n < 16), numer qt kc vt q0 q1 kl vl n hn (ix2 d j)
      = ∑ k : Fin (n + 1), (∑ t : Fin 128, vblk vt ⟨k.val, by omega⟩ t d
          * wcode (qrow qt j) (qsc q0 q1 j) (kblk kc) (lane kl j) ⟨k.val, by omega⟩ t)
        * (kscale (wtop (qrow qt j) (qsc q0 q1 j) (kblk kc) (lane kl j) ⟨k.val, by omega⟩) * lane vl j ⟨k.val, by omega⟩)
  | 0, hn => by
    unfold numer
    rw [shapeCast_id, Fin.sum_univ_one, part_apply]
    rfl
  | n + 1, hn => by
    unfold numer
    rw [shapeCast_id, Fin.sum_univ_castSucc (n := n + 1)]
    pointwise
    rw [numer_apply d j n _, part_apply]
    rfl

/-- A tile's result is each query's attention. -/
theorem attend_apply (j : Fin 256) (d : Fin 128) : attend qt kc vt q0 q1 kl vl (ix3 0 j d)
      = out (qrow qt j) (qsc q0 q1 j) (kblk kc) (vblk vt) (lane kl j) (lane vl j) d := by
  unfold attend k0_pay2 out
  pointwise
  rw [numer_apply, denom_apply]
  rfl

end Tile

end Cert.KernelIdeal.Hand

end
-- ==== Proof.Whole.lean ====
module

public import proofs.«01_k».proof.Proof.Spec
public import Idealize.ShloMosaic.Lib.Pointwise

@[expose] public section

set_option maxRecDepth 16384

noncomputable section

namespace Cert.Spec

open Idealize.ShloMosaic Cert.Scale

/-! The seven results as functions of the three arguments: what both programs are proved to compute. -/

/-- An argument: batch, token, coordinate of a head. -/
abbrev Tokens : Shape := ⟨3, ![8, 2048, 4096]⟩

/-- The scales: batch, block of 128 tokens, head. -/
abbrev Blocks : Shape := ⟨3, ![8, 16, 32]⟩

/-- The tokens of one head of one batch: block, token of the block, coordinate. -/
def tok (x : Tokens.Idx → EReal) (b : Fin 8) (h : Fin 32) (n : Fin 16) (r d : Fin 128) : EReal :=
  x (ix3 b ⟨n.val * 128 + r.val, by omega⟩ ⟨h.val * 128 + d.val, by omega⟩)

/-- A head's coordinate, and a token's. -/
def hi {n : ℕ} (e : Fin (n * 128)) : Fin n := ⟨e.val / 128, by have := e.isLt; omega⟩
def lo {n : ℕ} (e : Fin (n * 128)) : Fin 128 := ⟨e.val % 128, by omega⟩

theorem join {n : ℕ} (e : Fin (n * 128)) : (⟨(hi e).val * 128 + (lo e).val, by have := (hi e).isLt; have := (lo e).isLt; omega⟩ : Fin (n * 128)) = e :=
  Fin.ext (by show e.val / 128 * 128 + e.val % 128 = e.val; omega)

/-- The codes of an argument. -/
def codes (x : Tokens.Idx → EReal) (b : Fin 8) (s : Fin (16 * 128)) (e : Fin (32 * 128)) : EReal := code (tok x b (hi e)) (hi s) (lo s) (lo e)

/-- Its scales. -/
def scales (x : Tokens.Idx → EReal) (b : Fin 8) (n : Fin 16) (h : Fin 32) : EReal := scale (tok x b h) n

/-- The attention. -/
def attention (xq xk xv : Tokens.Idx → EReal) (b : Fin 8) (s : Fin (16 * 128)) (e : Fin (32 * 128)) : EReal :=
  out (code (tok xq b (hi e)) (hi s) (lo s)) (scale (tok xq b (hi e)) (hi s)) (code (tok xk b (hi e))) (code (tok xv b (hi e)))
    (scale (tok xk b (hi e))) (scale (tok xv b (hi e))) (lo e)

/-- The codes as an array. -/
def codesArr (x : Tokens.Idx → EReal) : Tokens.Idx → EReal := fun i => codes x (i 0) (i 1) (i 2)

/-- The scales as an array. -/
def scalesArr (x : Tokens.Idx → EReal) : Blocks.Idx → EReal := fun i => scales x (i 0) (i 1) (i 2)

/-- The attention as an array. -/
def attentionArr (xq xk xv : Tokens.Idx → EReal) : Tokens.Idx → EReal := fun i => attention xq xk xv (i 0) (i 1) (i 2)

/-- Two arrays over the tokens are one where they agree at every batch, token of a block and coordinate of a head. -/
theorem tokens_ext {f g : Tokens.Idx → EReal} (h : ∀ (b : Fin 8) (n : Fin 16) (r : Fin 128) (h : Fin 32) (d : Fin 128),
    f (ix3 b ⟨n.val * 128 + r.val, by omega⟩ ⟨h.val * 128 + d.val, by omega⟩) = g (ix3 b ⟨n.val * 128 + r.val, by omega⟩ ⟨h.val * 128 + d.val, by omega⟩)) :
    f = g := by
  funext i
  have e : i = ix3 (n0 := 8) (n1 := 2048) (n2 := 4096) (i 0)
      ⟨(hi (n := 16) (i 1)).val * 128 + (lo (n := 16) (i 1)).val, by have := (hi (n := 16) (i 1)).isLt; have := (lo (n := 16) (i 1)).isLt; omega⟩
      ⟨(hi (n := 32) (i 2)).val * 128 + (lo (n := 32) (i 2)).val, by have := (hi (n := 32) (i 2)).isLt; have := (lo (n := 32) (i 2)).isLt; omega⟩ := by
    funext k
    fin_cases k
    · rfl
    · exact (join (n := 16) (i 1)).symm
    · exact (join (n := 32) (i 2)).symm
  exact (congrArg f e).trans ((h (i 0) (hi (n := 16) (i 1)) (lo (n := 16) (i 1)) (hi (n := 32) (i 2)) (lo (n := 32) (i 2))).trans (congrArg g e).symm)

theorem blocks_ext {f g : Blocks.Idx → EReal} (h : ∀ (b : Fin 8) (n : Fin 16) (h : Fin 32), f (ix3 b n h) = g (ix3 b n h)) : f = g := by
  funext i
  have e : i = ix3 (n0 := 8) (n1 := 16) (n2 := 32) (i 0) (i 1) (i 2) := by funext k; fin_cases k <;> rfl
  exact (congrArg f e).trans ((h (i 0) (i 1) (i 2)).trans (congrArg g e).symm)

theorem hi_join {n : ℕ} (a : Fin n) (r : Fin 128) (h) : hi (⟨a.val * 128 + r.val, h⟩ : Fin (n * 128)) = a :=
  Fin.ext (by show (a.val * 128 + r.val) / 128 = a.val; omega)

theorem lo_join {n : ℕ} (a : Fin n) (r : Fin 128) (h) : lo (⟨a.val * 128 + r.val, h⟩ : Fin (n * 128)) = r :=
  Fin.ext (by show (a.val * 128 + r.val) % 128 = r.val; omega)

theorem codesArr_ix (x : Tokens.Idx → EReal) (b : Fin 8) (n : Fin 16) (r : Fin 128) (h : Fin 32) (d : Fin 128) :
    codesArr x (ix3 b ⟨n.val * 128 + r.val, by omega⟩ ⟨h.val * 128 + d.val, by omega⟩) = code (tok x b h) n r d := by
  show codes x b (⟨n.val * 128 + r.val, by omega⟩ : Fin (16 * 128)) (⟨h.val * 128 + d.val, by omega⟩ : Fin (32 * 128)) = _
  unfold codes
  rw [hi_join, hi_join, lo_join, lo_join]

theorem attentionArr_ix (xq xk xv : Tokens.Idx → EReal) (b : Fin 8) (n : Fin 16) (r : Fin 128) (h : Fin 32) (d : Fin 128) :
    attentionArr xq xk xv (ix3 b ⟨n.val * 128 + r.val, by omega⟩ ⟨h.val * 128 + d.val, by omega⟩)
      = out (code (tok xq b h) n r) (scale (tok xq b h) n) (code (tok xk b h)) (code (tok xv b h)) (scale (tok xk b h)) (scale (tok xv b h)) d := by
  show attention xq xk xv b (⟨n.val * 128 + r.val, by omega⟩ : Fin (16 * 128)) (⟨h.val * 128 + d.val, by omega⟩ : Fin (32 * 128)) = _
  unfold attention
  rw [hi_join, hi_join, lo_join, lo_join]

theorem scale_nonneg (X : Fin 16 → Fin 128 → Fin 128 → EReal) (n : Fin 16) : 0 ≤ scale X n := kscale_nonneg (top_nonneg X n)

/-- The softmax's factor is not negative. -/
theorem factor_nonneg : 0 ≤ Ideal.ofBits .f32 0x3DB504F3#32 := by
  show 0 ≤ Ideal.ieee 8 23 0x3DB504F3#32
  unfold Ideal.ieee
  simp only [Nat.reduceAdd]
  rw [show BitVec.extractLsb' 31 1 0x3DB504F3#32 = 0#1 from by decide,
    show (BitVec.extractLsb' 23 8 0x3DB504F3#32).toNat = 123 from by decide,
    show (BitVec.extractLsb' 0 23 0x3DB504F3#32).toNat = 3474675 from by decide]
  rw [if_neg (by norm_num), if_neg (by norm_num)]
  rw [show ((0#1 : BitVec 1) == 1#1) = false from rfl]
  refine EReal.coe_nonneg.mpr ?_
  simp only [Bool.false_eq_true, if_false]
  positivity

theorem coef_nonneg {sq : EReal} {sk : Fin 16 → EReal} (hq : 0 ≤ sq) (hk : ∀ n, 0 ≤ sk n) (n : Fin 16) : 0 ≤ coef sq sk n :=
  mul_nonneg (mul_nonneg hq factor_nonneg) (hk n)

end Cert.Spec

end
-- ==== Proof.Arrays.lean ====
module

public import proofs.«01_k».proof.Proof.Dats
public import proofs.«01_k».proof.Proof.Read
public import proofs.«01_k».proof.Proof.Whole
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

/-! What the kernel's arrays hold after the run, over the extended reals: every result array in closed form over the arguments. -/

variable (m : (ℓ : Loc nD τ sig) → Buf (Elt Ideal) ℓ) (c : Dev nD)

/-- The queries, the keys and the values as launched. -/
def argQ : Tokens.Idx → EReal := m ((c : Thread nD τ).loc main_arg0)
def argK : Tokens.Idx → EReal := m ((c : Thread nD τ).loc main_arg1)
def argV : Tokens.Idx → EReal := m ((c : Thread nD τ).loc main_arg2)

/-! ## The windows' blocks -/

theorem coords_batch (t : Fin cfg0.N) : (grid0.coords t 0).val = t.val / 256 % 8 := Pipeline.Grid.coords_val t 0 (by decide) rfl

theorem coords_tile (t : Fin cfg0.N) : (grid0.coords t 2).val = t.val / 1 % 8 := Pipeline.Grid.coords_val t 2 (by decide) rfl

theorem word_val (n : ℕ) (hn : n < 256) : (BitVec.ofNat 32 n).toNat = n := by
  rw [BitVec.toNat_ofNat]; omega

theorem idx_head (t : Fin cfg0.N) : (![(BitVec.ofNat 32 (grid0.coords t 0).val).toNat, (0#32).toNat, (BitVec.ofNat 32 (grid0.coords t 1).val).toNat] : Fin 3 → ℕ)
    = ![t.val / 256 % 8, 0, t.val / 8 % 32] := by
  rw [coords_batch, coords_head, word_val (t.val / 256 % 8) (by omega), word_val (t.val / 8 % 32) (by omega)]; rfl

theorem idx_batch (t : Fin cfg0.N) : (![(BitVec.ofNat 32 (grid0.coords t 0).val).toNat, (0#32).toNat, (0#32).toNat] : Fin 3 → ℕ)
    = ![t.val / 256 % 8, 0, 0] := by
  rw [coords_batch, word_val _ (by omega)]; rfl

theorem idx0 (t : Fin cfg0.N) : win0_0.index t = ![t.val / 256 % 8, 0, t.val / 8 % 32] := idx_head t
theorem idx1 (t : Fin cfg0.N) : win0_1.index t = ![t.val / 256 % 8, 0, t.val / 8 % 32] := idx_head t
theorem idx2 (t : Fin cfg0.N) : win0_2.index t = ![t.val / 256 % 8, 0, t.val / 8 % 32] := idx_head t
theorem idx4 (t : Fin cfg0.N) : win0_4.index t = ![t.val / 256 % 8, 0, t.val / 8 % 32] := idx_head t
theorem idx6 (t : Fin cfg0.N) : win0_6.index t = ![t.val / 256 % 8, 0, t.val / 8 % 32] := idx_head t
theorem idx8 (t : Fin cfg0.N) : win0_8.index t = ![t.val / 256 % 8, 0, t.val / 8 % 32] := idx_head t
theorem idx5 (t : Fin cfg0.N) : win0_5.index t = ![t.val / 256 % 8, 0, 0] := idx_batch t
theorem idx7 (t : Fin cfg0.N) : win0_7.index t = ![t.val / 256 % 8, 0, 0] := idx_batch t
theorem idx9 (t : Fin cfg0.N) : win0_9.index t = ![t.val / 256 % 8, 0, 0] := idx_batch t
theorem idx3 (t : Fin cfg0.N) : win0_3.index t = ![t.val / 256 % 8, t.val % 8, t.val / 8 % 32] := by
  show (![(BitVec.ofNat 32 (grid0.coords t 0).val).toNat, (BitVec.ofNat 32 (grid0.coords t 2).val).toNat, (BitVec.ofNat 32 (grid0.coords t 1).val).toNat] : Fin 3 → ℕ) = _
  rw [coords_batch, coords_tile, coords_head, word_val (t.val / 256 % 8) (by omega), word_val (t.val / 1 % 8) (by omega), word_val (t.val / 8 % 32) (by omega), Nat.div_one]

/-! ## The heads' tokens -/

/-- The batch and the head of head number `g`. -/
def batchOf (g : ℕ) : Fin 8 := ⟨g % 256 / 32, by omega⟩
def headOf (g : ℕ) : Fin 32 := ⟨g % 32, by omega⟩

theorem toksQ (g : ℕ) : toks (headQ m c g) = tok (argQ m c) (batchOf g) (headOf g) := by
  funext n r d
  unfold toks tok headQ argQ batchOf headOf
  have e := idx0 (headAt g)
  have ev : (headAt g).val = 8 * (g % 256) := rfl
  rw [ev] at e
  blk_ext [iblk, V, e]

theorem toksK (g : ℕ) : toks (headK m c g) = tok (argK m c) (batchOf g) (headOf g) := by
  funext n r d
  unfold toks tok headK argK batchOf headOf
  have e := idx1 (headAt g)
  have ev : (headAt g).val = 8 * (g % 256) := rfl
  rw [ev] at e
  blk_ext [iblk, V, e]

theorem toksV (g : ℕ) : toks (headV m c g) = tok (argV m c) (batchOf g) (headOf g) := by
  funext n r d
  unfold toks tok headV argV batchOf headOf
  have e := idx2 (headAt g)
  have ev : (headAt g).val = 8 * (g % 256) := rfl
  rw [ev] at e
  blk_ext [iblk, V, e]

/-! ## The result arrays read where a block's element lies -/

theorem codesArr_at (x : Tokens.Idx → EReal) (i : Tokens.Idx) (b : Fin 8) (h : Fin 32) (s : Fin 2048) (d : Fin 128)
    (h0 : (i 0).val = b.val) (h1 : (i 1).val = s.val) (h2 : (i 2).val = h.val * 128 + d.val) :
    codesArr x i = code (tok x b h) ⟨s.val / 128, by omega⟩ ⟨s.val % 128, by omega⟩ d := by
  have e0 : i 0 = b := Fin.ext h0
  have e1 : hi (n := 32) (i 2) = h := Fin.ext (by show (i 2).val / 128 = h.val; omega)
  have e2 : hi (n := 16) (i 1) = ⟨s.val / 128, by omega⟩ := Fin.ext (by show (i 1).val / 128 = s.val / 128; omega)
  have e3 : lo (n := 16) (i 1) = ⟨s.val % 128, by omega⟩ := Fin.ext (by show (i 1).val % 128 = s.val % 128; omega)
  have e4 : lo (n := 32) (i 2) = d := Fin.ext (by show (i 2).val % 128 = d.val; omega)
  unfold codesArr codes
  rw [e0, e1, e2, e3, e4]

theorem scalesArr_at (x : Tokens.Idx → EReal) (i : Blocks.Idx) (b : Fin 8) (n : Fin 16) (h : Fin 32)
    (h0 : (i 0).val = b.val) (h1 : (i 1).val = n.val) (h2 : (i 2).val = h.val) : scalesArr x i = scale (tok x b h) n := by
  have e0 : i 0 = b := Fin.ext h0
  have e1 : i 1 = n := Fin.ext h1
  have e2 : i 2 = h := Fin.ext h2
  unfold scalesArr scales
  rw [e0, e1, e2]

theorem attentionArr_at (xq xk xv : Tokens.Idx → EReal) (i : Tokens.Idx) (b : Fin 8) (h : Fin 32) (s : Fin 2048) (d : Fin 128)
    (h0 : (i 0).val = b.val) (h1 : (i 1).val = s.val) (h2 : (i 2).val = h.val * 128 + d.val) :
    attentionArr xq xk xv i = out (code (tok xq b h) ⟨s.val / 128, by omega⟩ ⟨s.val % 128, by omega⟩) (scale (tok xq b h) ⟨s.val / 128, by omega⟩)
      (code (tok xk b h)) (code (tok xv b h)) (scale (tok xk b h)) (scale (tok xv b h)) d := by
  have e0 : i 0 = b := Fin.ext h0
  have e1 : hi (n := 32) (i 2) = h := Fin.ext (by show (i 2).val / 128 = h.val; omega)
  have e2 : hi (n := 16) (i 1) = ⟨s.val / 128, by omega⟩ := Fin.ext (by show (i 1).val / 128 = s.val / 128; omega)
  have e3 : lo (n := 16) (i 1) = ⟨s.val % 128, by omega⟩ := Fin.ext (by show (i 1).val % 128 = s.val % 128; omega)
  have e4 : lo (n := 32) (i 2) = d := Fin.ext (by show (i 2).val % 128 = d.val; omega)
  unfold attentionArr attention
  rw [e0, e1, e2, e3, e4]

/-! ## The codes -/

theorem codes_final (t : Fin cfg0.N) (X : Vec Ideal S1x2048x128 .bf16) (x : Tokens.Idx → EReal)
    (hX : toks X = tok x (batchOf (t.val / 8)) (headOf (t.val / 8))) (y : S1x2048x128.Idx) (i : Tokens.Idx)
    (h0 : (i 0).val = t.val / 256 % 8 + (y 0).val) (h1 : (i 1).val = (y 1).val) (h2 : (i 2).val = t.val / 8 % 32 * 128 + (y 2).val) :
    codesOf (F := Ideal) X y = codesArr x i := by
  have hN : t.val < 2048 := by have h : cfg0.N = 2048 := N_0; have := t.isLt; omega
  have hy0 : (y 0).val < 1 := (y 0).isLt
  have ey : y = ix3 0 (y 1) (y 2) := by
    funext k
    fin_cases k
    · exact Fin.ext (by show (y 0).val = 0; omega)
    · rfl
    · rfl
  rw [ey]
  refine (codesOf_apply X (y 1) (y 2)).trans ?_
  rw [hX]
  exact (codesArr_at x i (batchOf (t.val / 8)) (headOf (t.val / 8)) (y 1) (y 2)
    (by show _ = t.val / 8 % 256 / 32; omega) h1 (by show _ = t.val / 8 % 32 * 128 + _; exact h2)).symm

theorem final4 : (dats m 0 c).arrAt 4 cfg0.N = codesArr (argQ m c) := by
  refine (dats m 0 c).arrAt_eq_of_covers 4 _ (by decide +kernel) fun t hf y => ?_
  rw [after0_4]
  refine codes_final t _ (argQ m c) (toksQ m c _) y _ ?_ ?_ ?_ <;> blk_simp [idx4]

theorem final6 : (dats m 0 c).arrAt 6 cfg0.N = codesArr (argK m c) := by
  refine (dats m 0 c).arrAt_eq_of_covers 6 _ (by decide +kernel) fun t hf y => ?_
  rw [after0_6]
  refine codes_final t _ (argK m c) (toksK m c _) y _ ?_ ?_ ?_ <;> blk_simp [idx6]

theorem final8 : (dats m 0 c).arrAt 8 cfg0.N = codesArr (argV m c) := by
  refine (dats m 0 c).arrAt_eq_of_covers 8 _ (by decide +kernel) fun t hf y => ?_
  rw [after0_8]
  refine codes_final t _ (argV m c) (toksV m c _) y _ ?_ ?_ ?_ <;> blk_simp [idx8]

/-! ## The scales -/

/-- A table's cell after a head: the head's own column holds its scale; the others, at a batch's first head, zero and otherwise
    what they held. -/
theorem table_cell (x : Vec Ideal S1x2048x128 .bf16) (h : ℕ) (hh : h < 32) (old : Vec Ideal S1x16x32 .f32) (n : Fin 16) (l : Fin 32) :
    tableOf (F := Ideal) x (BitVec.ofNat 32 h) old (ix3 0 n l) = if l.val = h then scale (toks x) n else if h = 0 then 0 else old (ix3 0 n l) := by
  have e : ∀ a : ℕ, a < 32 → ∀ b : ℕ, b < 32 → ((BitVec.ofNat 32 a == BitVec.ofNat 32 b) = decide (a = b)) := by decide +kernel
  rw [tableOf_apply]
  unfold Scalar.cmpi IntOp.cmpi
  dsimp only
  rw [e _ l.isLt _ hh, show (0#32 : BitVec 32) = BitVec.ofNat 32 0 from rfl, e _ hh _ (by omega), Scale.select_ofBool, Scale.select_ofBool]

/-- After a head the table holds, in the columns of its batch's heads up to it, their scales. -/
theorem tableAt_cell (X : ℕ → Vec Ideal S1x2048x128 .bf16) (n : Fin 16) (l : Fin 32) :
    ∀ g : ℕ, l.val ≤ g % 32 → tableAt X g (ix3 0 n l) = scale (toks (X (g - g % 32 + l.val))) n := by
  intro g
  induction g with
  | zero =>
    intro hl
    rw [tableAt_reset X 0 rfl (tableAt X 0), table_cell _ _ (by omega), if_pos (by omega), show 0 - 0 % 32 + l.val = 0 from by omega]
  | succ g ih =>
    intro hl
    rw [tableAt_step X (g + 1) (by omega), table_cell _ _ (by omega)]
    by_cases e : l.val = (g + 1) % 32
    · rw [if_pos e, show g + 1 - (g + 1) % 32 + l.val = g + 1 from by omega]
    · rw [if_neg e, if_neg (by omega), show g + 1 - 1 = g from by omega, ih (by omega),
        show g + 1 - (g + 1) % 32 + l.val = g - g % 32 + l.val from by omega]

theorem scales_final (t : Fin cfg0.N) (ht : t.val % 256 = 255) (X : ℕ → Vec Ideal S1x2048x128 .bf16) (x : Tokens.Idx → EReal)
    (hX : ∀ g, toks (X g) = tok x (batchOf g) (headOf g)) (y : S1x16x32.Idx) (i : Blocks.Idx)
    (h0 : (i 0).val = t.val / 256 % 8 + (y 0).val) (h1 : (i 1).val = (y 1).val) (h2 : (i 2).val = (y 2).val) :
    tableAt X (t.val / 8) y = scalesArr x i := by
  have hN : t.val < 2048 := by have h : cfg0.N = 2048 := N_0; have := t.isLt; omega
  have hy0 : (y 0).val < 1 := (y 0).isLt
  have hy2 : (y 2).val < 32 := (y 2).isLt
  have ey : y = ix3 0 (y 1) (y 2) := by
    funext k
    fin_cases k
    · exact Fin.ext (by show (y 0).val = 0; omega)
    · rfl
    · rfl
  rw [ey]
  refine (tableAt_cell X (y 1) (y 2) (t.val / 8) (by omega)).trans ?_
  rw [hX]
  exact (scalesArr_at x i (batchOf (t.val / 8 - t.val / 8 % 32 + (y 2).val)) (y 1) (headOf (t.val / 8 - t.val / 8 % 32 + (y 2).val))
    (by show _ = (t.val / 8 - t.val / 8 % 32 + (y 2).val) % 256 / 32; omega) h1
    (by show _ = (t.val / 8 - t.val / 8 % 32 + (y 2).val) % 32; omega)).symm

theorem final5 : (dats m 0 c).arrAt 5 cfg0.N = scalesArr (argQ m c) := by
  refine (dats m 0 c).arrAt_eq_of_covers 5 _ (by decide +kernel) fun t hf y => ?_
  rw [after0_5]
  refine scales_final t ((flush0_5 t).mp hf) _ (argQ m c) (toksQ m c) y _ ?_ ?_ ?_ <;> blk_simp [idx5]

theorem final7 : (dats m 0 c).arrAt 7 cfg0.N = scalesArr (argK m c) := by
  refine (dats m 0 c).arrAt_eq_of_covers 7 _ (by decide +kernel) fun t hf y => ?_
  rw [after0_7]
  refine scales_final t ((flush0_7 t).mp hf) _ (argK m c) (toksK m c) y _ ?_ ?_ ?_ <;> blk_simp [idx7]

theorem final9 : (dats m 0 c).arrAt 9 cfg0.N = scalesArr (argV m c) := by
  refine (dats m 0 c).arrAt_eq_of_covers 9 _ (by decide +kernel) fun t hf y => ?_
  rw [after0_9]
  refine scales_final t ((flush0_9 t).mp hf) _ (argV m c) (toksV m c) y _ ?_ ?_ ?_ <;> blk_simp [idx9]

/-! ## The attention -/

theorem tileOf_apply (t : Fin cfg0.N) (qc : Vec Ideal S1x2048x128 .fp8e4m3) (j : Fin 256) (d : Fin 128) :
    tileOf (grid0.coords t) qc (ix3 0 j d) = qc (ix3 0 ⟨t.val % 8 * 256 + j.val, by omega⟩ d) := by
  have e : k0_off1 (grid0.coords t) = ![0, t.val % 8 * 256, 0] := by
    have e8 : ∀ n : ℕ, n < 8 → (Scalar.muli (BitVec.ofNat 32 n) 256#32).toNat = n * 256 := by decide +kernel
    show (![0, (Scalar.muli (BitVec.ofNat 32 (grid0.coords t 2).val) 256#32).toNat, 0] : Fin 3 → ℕ) = _
    rw [coords_tile, e8 _ (by omega), Nat.div_one]
  unfold tileOf
  refine View.ld_unit_apply_of _ _ _ _ _ _ fun a => ?_
  refine Eq.trans ?_ (congrArg (· + (ix3 (n0 := 1) (n1 := 256) (n2 := 128) 0 j d a).val) (congrFun e a).symm)
  fin_cases a
  · rfl
  · rfl
  · exact (Nat.zero_add _).symm

theorem laneRow_apply (t : Fin cfg0.N) (r : Fin 2) (ql : Vec Ideal S16x128 .f32) (j : Fin 128) :
    laneRow (grid0.coords t) r ql (ix2 0 j) = ql (ix2 ⟨t.val % 8 * 2 + r.val, by omega⟩ j) := by
  have e : k0_off2 (grid0.coords t) (BitVec.ofNat 32 r.val) = ![t.val % 8 * 2 + r.val, 0] := by
    have e8 : ∀ n : ℕ, n < 8 → ∀ r : ℕ, r < 2 → (Scalar.addi (Scalar.muli (BitVec.ofNat 32 n) 2#32) (BitVec.ofNat 32 r)).toNat = n * 2 + r := by decide +kernel
    show (![(Scalar.addi (Scalar.muli (BitVec.ofNat 32 (grid0.coords t 2).val) 2#32) (BitVec.ofNat 32 r.val)).toNat, 0] : Fin 2 → ℕ) = _
    rw [coords_tile, e8 _ (by omega) _ r.isLt, Nat.div_one]
  unfold laneRow
  refine View.ld_unit_apply_of _ _ _ _ _ _ fun a => ?_
  refine Eq.trans ?_ (congrArg (· + (ix2 (n0 := 1) (n1 := 128) 0 j a).val) (congrFun e a).symm)
  fin_cases a
  · rfl
  · exact (Nat.zero_add _).symm

theorem kblk_codes (x : Vec Ideal S1x2048x128 .bf16) : kblk (codesOf (F := Ideal) x) = code (toks x) := by
  funext n t d
  unfold kblk
  rw [codesOf_apply]
  congr 1
  · exact Fin.ext (by show (n.val * 128 + t.val) / 128 = n.val; omega)
  · exact Fin.ext (by show (n.val * 128 + t.val) % 128 = t.val; omega)

theorem vblk_codes (x : Vec Ideal S1x2048x128 .bf16) : vblk (codesTOf (F := Ideal) x) = code (toks x) := by
  funext n t d
  unfold vblk
  rw [codesTOf_apply]
  congr 1
  · exact Fin.ext (by show (n.val * 128 + t.val) / 128 = n.val; omega)
  · exact Fin.ext (by show (n.val * 128 + t.val) % 128 = t.val; omega)

theorem lane_scales (x : Vec Ideal S1x2048x128 .bf16) (j : Fin 256) : lane (lanesOf (F := Ideal) x) j = scale (toks x) := by
  funext n
  unfold lane
  split <;> exact lanesOf_apply x n _

theorem qsc_scales (t : Fin cfg0.N) (x : Vec Ideal S1x2048x128 .bf16) (j : Fin 256) :
    qsc (laneRow (grid0.coords t) 0 (lanesOf (F := Ideal) x)) (laneRow (grid0.coords t) 1 (lanesOf x)) j
      = scale (toks x) ⟨(t.val % 8 * 256 + j.val) / 128, by omega⟩ := by
  unfold qsc
  split
  · rw [laneRow_apply, lanesOf_apply]
    congr 1
    exact Fin.ext (by show t.val % 8 * 2 + 0 = (t.val % 8 * 256 + j.val) / 128; omega)
  · rw [laneRow_apply, lanesOf_apply]
    congr 1
    exact Fin.ext (by show t.val % 8 * 2 + 1 = (t.val % 8 * 256 + j.val) / 128; omega)

theorem qrow_codes (t : Fin cfg0.N) (x : Vec Ideal S1x2048x128 .bf16) (j : Fin 256) :
    qrow (tileOf (grid0.coords t) (codesOf (F := Ideal) x)) j
      = code (toks x) ⟨(t.val % 8 * 256 + j.val) / 128, by omega⟩ ⟨(t.val % 8 * 256 + j.val) % 128, by omega⟩ := by
  funext d
  unfold qrow
  rw [tileOf_apply, codesOf_apply]

theorem tileAt_apply (t : Fin cfg0.N) (j : Fin 256) (d : Fin 128) : tileAt m c t (ix3 0 j d)
    = out (code (tok (argQ m c) (batchOf (t.val / 8)) (headOf (t.val / 8))) ⟨(t.val % 8 * 256 + j.val) / 128, by omega⟩ ⟨(t.val % 8 * 256 + j.val) % 128, by omega⟩)
      (scale (tok (argQ m c) (batchOf (t.val / 8)) (headOf (t.val / 8))) ⟨(t.val % 8 * 256 + j.val) / 128, by omega⟩)
      (code (tok (argK m c) (batchOf (t.val / 8)) (headOf (t.val / 8)))) (code (tok (argV m c) (batchOf (t.val / 8)) (headOf (t.val / 8))))
      (scale (tok (argK m c) (batchOf (t.val / 8)) (headOf (t.val / 8)))) (scale (tok (argV m c) (batchOf (t.val / 8)) (headOf (t.val / 8)))) d := by
  unfold tileAt blockOf
  rw [attend_apply, qrow_codes, qsc_scales, kblk_codes, vblk_codes, lane_scales, lane_scales, toksQ, toksK, toksV]

theorem attention_final (t : Fin cfg0.N) (y : S1x256x128.Idx) (i : Tokens.Idx)
    (h0 : (i 0).val = t.val / 256 % 8 + (y 0).val) (h1 : (i 1).val = t.val % 8 * 256 + (y 1).val)
    (h2 : (i 2).val = t.val / 8 % 32 * 128 + (y 2).val) :
    tileAt m c t y = attentionArr (argQ m c) (argK m c) (argV m c) i := by
  have hN : t.val < 2048 := by have h : cfg0.N = 2048 := N_0; have := t.isLt; omega
  have hy0 : (y 0).val < 1 := (y 0).isLt
  have hy1 : (y 1).val < 256 := (y 1).isLt
  have ey : y = ix3 0 (y 1) (y 2) := by
    funext k
    fin_cases k
    · exact Fin.ext (by show (y 0).val = 0; omega)
    · rfl
    · rfl
  rw [ey]
  refine (tileAt_apply m c t (y 1) (y 2)).trans ?_
  exact (attentionArr_at (argQ m c) (argK m c) (argV m c) i (batchOf (t.val / 8)) (headOf (t.val / 8)) ⟨t.val % 8 * 256 + (y 1).val, by omega⟩ (y 2)
    (by show _ = t.val / 8 % 256 / 32; omega) h1 (by show _ = t.val / 8 % 32 * 128 + _; exact h2)).symm

theorem final3 : (dats m 0 c).arrAt 3 cfg0.N = attentionArr (argQ m c) (argK m c) (argV m c) := by
  refine (dats m 0 c).arrAt_eq_of_covers 3 _ (by decide +kernel) fun t hf y => ?_
  rw [after0_3]
  refine attention_final m c t y _ ?_ ?_ ?_ <;> blk_simp [idx3]

end Cert.KernelIdeal.Hand

end
-- ==== Proof.RefQuant.lean ====
module

public import proofs.«01_k».proof.Proof.Gen.ReferenceIdeal
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Cert.Scale Cert.Spec
open Idealize.ShloMosaic Idealize.ShloMosaic.TcCoe

/-! The reference's quantisation read at an index over the extended reals: the largest magnitude of a block of 128 tokens of a
    head, its scale, and the codes. -/

section Tokens

variable (y : FVec Ideal S8x16x128x32x128 .f32)

/-- The largest magnitude of every block. -/
def amaxR : FVec Ideal S8x16x32 .f32 :=
  Host.reduce FloatOps.maximumf (Host.absf y) (constant S_ .f32 0xFF800000#32) reducesTo_S8x16x128x32x128_S8x16x32_d2_4 h_S_

/-- The same over 448, with the axes of length one kept. -/
def sizeR (a : FVec Ideal S8x16x32 .f32) : FVec Ideal S8x16x1x32x1 .f32 :=
  mulf (broadcastInDim S8x16x1x32x1 ![0, 1, 3] bcast_S8x16x32_S8x16x1x32x1_0_1_3 a) (broadcastInDim S8x16x1x32x1 ![] bcast_S_S8x16x1x32x1 (constant S_ .f32 0x3B124925#32))

/-- The powers of two from `2 ^ -125` to `2 ^ 127`. -/
def powersR : FVec Ideal S253 .f32 :=
  Host.powf (broadcastInDim S253 ![] bcast_S_S253 (constant S_ .f32 0x40000000#32)) (sitofp .f32 (addi (broadcastInDim S253 ![] bcast_S_S253 (constantI S_ 32 4294967171#32)) (iotaInDim S253 32 0)))

/-- The powers above a block's size, infinity in the place of the others. -/
def aboveR (p : FVec Ideal S253 .f32) (t : FVec Ideal S8x16x1x32x1 .f32) : FVec Ideal S8x16x1x32x1x253 .f32 :=
  select (cmpf .ogt (broadcastInDim S8x16x1x32x1x253 ![0, 1, 2, 3, 4, 5] bcast_S1x1x1x1x1x253_S8x16x1x32x1x253_0_1_2_3_4_5 (broadcastInDim S1x1x1x1x1x253 ![5] bcast_S253_S1x1x1x1x1x253_5 p)) (broadcastInDim S8x16x1x32x1x253 ![0, 1, 2, 3, 4, 5] bcast_S8x16x1x32x1x1_S8x16x1x32x1x253_0_1_2_3_4_5 (broadcastInDim S8x16x1x32x1x1 ![0, 1, 2, 3, 4] bcast_S8x16x1x32x1_S8x16x1x32x1x1_0_1_2_3_4 t))) (broadcastInDim S8x16x1x32x1x253 ![5] bcast_S253_S8x16x1x32x1x253_5 p) (broadcastInDim S8x16x1x32x1x253 ![] bcast_S_S8x16x1x32x1x253 (id (constant S_ .f32 0x7F800000#32)))

/-- The least of them. -/
def leastR (v : FVec Ideal S8x16x1x32x1x253 .f32) : FVec Ideal S8x16x1x32x1 .f32 :=
  Host.reduce FloatOps.minimumf v (constant S_ .f32 0x7F800000#32) reducesTo_S8x16x1x32x1x253_S8x16x1x32x1_d5 h_S_

/-- A block's scale from its size `t` and the least power `l` above it. -/
def scaleR (t l : FVec Ideal S8x16x1x32x1 .f32) : FVec Ideal S8x16x1x32x1 .f32 :=
  select (ori (cmpf .olt t (broadcastInDim S8x16x1x32x1 ![] bcast_S_S8x16x1x32x1 (constant S_ .f32 0x00800000#32))) (cmpf .oeq t (broadcastInDim S8x16x1x32x1 ![] bcast_S_S8x16x1x32x1 (constant S_ .f32 0x7F800000#32)))) (broadcastInDim S8x16x1x32x1 ![] bcast_S_S8x16x1x32x1 (id (constant S_ .f32 0x3F800000#32))) l

/-- The inverses of the scales. -/
def invR (s : FVec Ideal S8x16x1x32x1 .f32) : FVec Ideal S8x16x1x32x1 .f32 :=
  select (cmpf .oge s (broadcastInDim S8x16x1x32x1 ![] bcast_S_S8x16x1x32x1 (constant S_ .f32 0x7F000000#32))) (broadcastInDim S8x16x1x32x1 ![] bcast_S_S8x16x1x32x1 (id (constant S_ .f32 0x00000000#32))) (Host.divf (broadcastInDim S8x16x1x32x1 ![] bcast_S_S8x16x1x32x1 (constant S_ .f32 0x3F800000#32)) s)

/-- The codes. -/
def codeR (i : FVec Ideal S8x16x1x32x1 .f32) : FVec Ideal S8x16x128x32x128 .f32 :=
  minimumf (broadcastInDim S8x16x128x32x128 ![] bcast_S_S8x16x128x32x128 (id (constant S_ .f32 0x43E00000#32))) (maximumf (broadcastInDim S8x16x128x32x128 ![] bcast_S_S8x16x128x32x128 (id (constant S_ .f32 0xC3E00000#32))) (mulf y (broadcastInDim S8x16x128x32x128 ![0, 1, 2, 3, 4] bcast_S8x16x1x32x1_S8x16x128x32x128_0_1_2_3_4 i)))

/-- The tokens of a head: block, token of the block, coordinate. -/
def headR (b : Fin 8) (h : Fin 32) (n : Fin 16) (r d : Fin 128) : EReal := y (ix5 b n r h d)

theorem absf_apply (i : S8x16x128x32x128.Idx) : Host.absf y i = max (y i) (-(y i)) := rfl

theorem amaxR_apply (b : Fin 8) (n : Fin 16) (h : Fin 32) : amaxR y (ix3 b n h) = top (headR y b h) n := by
  unfold amaxR top
  rw [Host.reduce_eq_fold]
  show (Finset.univ.filter _).fold max low _ = _
  rw [fold_max_eq_sup]
  simp only [fold_max_eq_sup]
  have hd := fun (i : S8x16x128x32x128.Idx) => reducesTo_S8x16x128x32x128_S8x16x32_d2_4.drop_apply_val_of_eq i 0 0
  have hd1 := fun (i : S8x16x128x32x128.Idx) => reducesTo_S8x16x128x32x128_S8x16x32_d2_4.drop_apply_val_of_eq i 1 1
  have hd2 := fun (i : S8x16x128x32x128.Idx) => reducesTo_S8x16x128x32x128_S8x16x32_d2_4.drop_apply_val_of_eq i 2 3
  apply le_antisymm
  · refine Finset.sup_le fun i hi => ?_
    have e := (Finset.mem_filter.mp hi).2
    have ei : i = ix5 b n (i 2) h (i 4) := by
      funext k
      fin_cases k
      · exact Fin.ext ((hd i).symm.trans (congrArg (fun j => (j 0).val) e))
      · exact Fin.ext ((hd1 i).symm.trans (congrArg (fun j => (j 1).val) e))
      · rfl
      · exact Fin.ext ((hd2 i).symm.trans (congrArg (fun j => (j 2).val) e))
      · rfl
    rw [absf_apply, ei]
    exact le_trans (Finset.le_sup (f := fun r => max (headR y b h n r (i 4)) (-(headR y b h n r (i 4)))) (Finset.mem_univ (i 2)))
      (Finset.le_sup (f := fun d => Finset.univ.sup fun r => max (headR y b h n r d) (-(headR y b h n r d))) (Finset.mem_univ (i 4)))
  · refine Finset.sup_le fun d _ => Finset.sup_le fun r _ => ?_
    refine Finset.le_sup (f := Host.absf y) (b := ix5 b n r h d) (Finset.mem_filter.mpr ⟨Finset.mem_univ _, ?_⟩)
    funext k
    fin_cases k
    · exact Fin.ext (hd _)
    · exact Fin.ext (hd1 _)
    · exact Fin.ext (hd2 _)

theorem sizeR_apply (a : FVec Ideal S8x16x32 .f32) (b : Fin 8) (n : Fin 16) (h : Fin 32) :
    sizeR a (ix5 b n 0 h 0) = a (ix3 b n h) * Ideal.ofBits .f32 0x3B124925#32 := by
  unfold sizeR; pointwise

theorem powersR_apply (j : Fin 253) : powersR (ix1 j) = power j := by
  have e : powersR (ix1 j) = Ideal.pow (Ideal.ofBits .f32 0x40000000#32)
      (((IntOp.addi 4294967171#32 (BitVec.ofNat 32 j.val)).toInt : ℝ) : EReal) := rfl
  rw [e]; unfold power IntOp.addi
  rw [BitVec.ofNat_add]

theorem aboveR_apply (p : FVec Ideal S253 .f32) (t : FVec Ideal S8x16x1x32x1 .f32) (b : Fin 8) (n : Fin 16) (h : Fin 32) (j : Fin 253) :
    aboveR p t (ix6 b n 0 h 0 j) = Scalar.select (Ideal.cmp .ogt (p (ix1 j)) (t (ix5 b n 0 h 0))) (p (ix1 j)) (Ideal.ofBits .f32 0x7F800000#32) := by
  unfold aboveR; pointwise; rfl

theorem leastR_apply (v : FVec Ideal S8x16x1x32x1x253 .f32) (b : Fin 8) (n : Fin 16) (h : Fin 32) :
    leastR v (ix5 b n 0 h 0) = Finset.univ.fold min (Ideal.ofBits .f32 0x7F800000#32) fun j : Fin 253 => v (ix6 b n 0 h 0 j) := by
  have hr : S8x16x1x32x1x253.Reduces [5] S8x16x1x32x1 := by decide
  have e : (v ∘ hr.lift (ix5 b n 0 h 0)) = fun j : Fin 253 => v (ix6 b n 0 h 0 j) := by
    funext j
    refine congrArg v (funext fun k => ?_)
    fin_cases k <;> rfl
  unfold leastR
  refine (Host.reduce_eq_fold_single (FloatOps.minimumf (F := Ideal) (φ := .f32)) v (constant S_ .f32 0x7F800000#32)
    reducesTo_S8x16x1x32x1x253_S8x16x1x32x1_d5 hr h_S_ (ix5 b n 0 h 0)).trans ?_
  rw [e]
  rfl

theorem scaleR_of (t l : FVec Ideal S8x16x1x32x1 .f32) (i : S8x16x1x32x1.Idx) :
    scaleR t l i = Scalar.select (IntOp.ori (Ideal.cmp .olt (t i) (Ideal.ofBits .f32 0x00800000#32))
      (Ideal.cmp .oeq (t i) (Ideal.ofBits .f32 0x7F800000#32))) (Ideal.ofBits .f32 0x3F800000#32) (l i) := rfl

theorem invR_apply (s : FVec Ideal S8x16x1x32x1 .f32) (i : S8x16x1x32x1.Idx) : invR s i = rinv (s i) := rfl

/-- The scales of `y`. -/
def scalesR : FVec Ideal S8x16x1x32x1 .f32 := scaleR (sizeR (amaxR y)) (leastR (aboveR powersR (sizeR (amaxR y))))

/-- The codes of `y`. -/
def codesR : FVec Ideal S8x16x128x32x128 .f32 := codeR y (invR (scalesR y))

theorem scalesR_rscale (b : Fin 8) (n : Fin 16) (h : Fin 32) : scalesR y (ix5 b n 0 h 0) = rscale (top (headR y b h) n) := by
  unfold scalesR rscale
  rw [scaleR_of, leastR_apply]
  simp only [aboveR_apply, sizeR_apply, amaxR_apply, powersR_apply]

theorem scalesR_apply (b : Fin 8) (n : Fin 16) (h : Fin 32) : scalesR y (ix5 b n 0 h 0) = scale (headR y b h) n := by
  rw [scalesR_rscale, rscale_eq (top_nonneg _ _)]; unfold scale; rfl

theorem codeR_of (i : FVec Ideal S8x16x1x32x1 .f32) (b : Fin 8) (n : Fin 16) (r : Fin 128) (h : Fin 32) (d : Fin 128) :
    codeR y i (ix5 b n r h d) = clip1 (y (ix5 b n r h d) * i (ix5 b n 0 h 0)) := by
  unfold codeR clip1; pointwise; rfl

theorem codesR_apply (b : Fin 8) (n : Fin 16) (r : Fin 128) (h : Fin 32) (d : Fin 128) :
    codesR y (ix5 b n r h d) = code (headR y b h) n r d := by
  unfold codesR code headR
  rw [codeR_of, invR_apply, scalesR_rscale, rinv_eq (top_nonneg _ _)]
  rfl

end Tokens

end Cert.ReferenceIdeal.Hand

end
-- ==== Proof.RefAttn.lean ====
module

public import proofs.«01_k».proof.Proof.RefQuant

@[expose] public section

set_option maxRecDepth 16384

noncomputable section

namespace Cert.ReferenceIdeal.Hand

open Cert.ReferenceIdeal Cert.ReferenceIdeal.Gen Cert.Scale Cert.Spec
open Idealize.ShloMosaic Idealize.ShloMosaic.TcCoe

/-! The reference's attention read at an index over the extended reals, stage by stage. -/

/-- The raw scores: batch, head, query's block and row, key's block and row. -/
def dotsR (qc kc : FVec Ideal S8x16x128x32x128 .f32) : FVec Ideal S8x32x16x128x16x128 .f32 :=
  Host.dotGeneral dot_S8x16x128x32x128_S8x16x128x32x128_S8x32x16x128x16x128_4_4_12_12_03_03 none qc kc

/-- The scores. -/
def scoresR (x : FVec Ideal S8x32x16x128x16x128 .f32) (qs ks : FVec Ideal S8x16x1x32x1 .f32) : FVec Ideal S8x32x16x128x16x128 .f32 :=
  mulf (mulf x (broadcastInDim S8x32x16x128x16x128 ![0, 1, 2, 3, 4, 5] bcast_S8x32x16x1x1x1_S8x32x16x128x16x128_0_1_2_3_4_5 (mulf (broadcastInDim S8x32x16x1x1x1 ![0, 1, 2] bcast_S8x32x16_S8x32x16x1x1x1_0_1_2 (transpose S8x32x16 [0, 2, 1] (shapeCast _ qs shapeCasts_S8x16x1x32x1_S8x16x32) transposes_S8x16x32_S8x32x16_0_2_1)) (broadcastInDim S8x32x16x1x1x1 ![] bcast_S_S8x32x16x1x1x1 (constant S_ .f32 0x3DB504F3#32))))) (broadcastInDim S8x32x16x128x16x128 ![0, 1, 2, 3, 4, 5] bcast_S8x32x1x1x16x1_S8x32x16x128x16x128_0_1_2_3_4_5 (broadcastInDim S8x32x1x1x16x1 ![0, 1, 4] bcast_S8x32x16_S8x32x1x1x16x1_0_1_4 (transpose S8x32x16 [0, 2, 1] (shapeCast _ ks shapeCasts_S8x16x1x32x1_S8x16x32) transposes_S8x16x32_S8x32x16_0_2_1)))

/-- A query's largest score. -/
def peakR (s : FVec Ideal S8x32x16x128x16x128 .f32) : FVec Ideal S8x32x16x128 .f32 :=
  Host.reduce FloatOps.maximumf s (constant S_ .f32 0xFF800000#32) reducesTo_S8x32x16x128x16x128_S8x32x16x128_d4_5 h_S_

/-- The weights. -/
def weightsR (s : FVec Ideal S8x32x16x128x16x128 .f32) (p : FVec Ideal S8x32x16x128 .f32) : FVec Ideal S8x32x16x128x16x128 .f32 :=
  Host.exp (subf s (broadcastInDim S8x32x16x128x16x128 ![0, 1, 2, 3, 4, 5] bcast_S8x32x16x128x1x1_S8x32x16x128x16x128_0_1_2_3_4_5 (broadcastInDim S8x32x16x128x1x1 ![0, 1, 2, 3] bcast_S8x32x16x128_S8x32x16x128x1x1_0_1_2_3 p)))

/-- The largest weight of every key block. -/
def wtopR (w : FVec Ideal S8x32x16x128x16x128 .f32) : FVec Ideal S8x32x16x128x16 .f32 :=
  Host.reduce FloatOps.maximumf (Host.absf w) (constant S_ .f32 0xFF800000#32) reducesTo_S8x32x16x128x16x128_S8x32x16x128x16_d5 h_S_

/-- The same over 448. -/
def wsizeR (a : FVec Ideal S8x32x16x128x16 .f32) : FVec Ideal S8x32x16x128x16x1 .f32 :=
  mulf (broadcastInDim S8x32x16x128x16x1 ![0, 1, 2, 3, 4] bcast_S8x32x16x128x16_S8x32x16x128x16x1_0_1_2_3_4 a) (broadcastInDim S8x32x16x128x16x1 ![] bcast_S_S8x32x16x128x16x1 (constant S_ .f32 0x3B124925#32))

/-- The powers above it, infinity in the place of the others. -/
def waboveR (p : FVec Ideal S253 .f32) (t : FVec Ideal S8x32x16x128x16x1 .f32) : FVec Ideal S8x32x16x128x16x1x253 .f32 :=
  select (cmpf .ogt (broadcastInDim S8x32x16x128x16x1x253 ![0, 1, 2, 3, 4, 5, 6] bcast_S1x1x1x1x1x1x253_S8x32x16x128x16x1x253_0_1_2_3_4_5_6 (broadcastInDim S1x1x1x1x1x1x253 ![6] bcast_S253_S1x1x1x1x1x1x253_6 p)) (broadcastInDim S8x32x16x128x16x1x253 ![0, 1, 2, 3, 4, 5, 6] bcast_S8x32x16x128x16x1x1_S8x32x16x128x16x1x253_0_1_2_3_4_5_6 (broadcastInDim S8x32x16x128x16x1x1 ![0, 1, 2, 3, 4, 5] bcast_S8x32x16x128x16x1_S8x32x16x128x16x1x1_0_1_2_3_4_5 t))) (broadcastInDim S8x32x16x128x16x1x253 ![6] bcast_S253_S8x32x16x128x16x1x253_6 p) (broadcastInDim S8x32x16x128x16x1x253 ![] bcast_S_S8x32x16x128x16x1x253 (id (constant S_ .f32 0x7F800000#32)))

/-- The least of them. -/
def wleastR (v : FVec Ideal S8x32x16x128x16x1x253 .f32) : FVec Ideal S8x32x16x128x16x1 .f32 :=
  Host.reduce FloatOps.minimumf v (constant S_ .f32 0x7F800000#32) reducesTo_S8x32x16x128x16x1x253_S8x32x16x128x16x1_d6 h_S_

/-- The weights' scales. -/
def wscaleR (t l : FVec Ideal S8x32x16x128x16x1 .f32) : FVec Ideal S8x32x16x128x16x1 .f32 :=
  select (ori (cmpf .olt t (broadcastInDim S8x32x16x128x16x1 ![] bcast_S_S8x32x16x128x16x1 (constant S_ .f32 0x00800000#32))) (cmpf .oeq t (broadcastInDim S8x32x16x128x16x1 ![] bcast_S_S8x32x16x128x16x1 (constant S_ .f32 0x7F800000#32)))) (broadcastInDim S8x32x16x128x16x1 ![] bcast_S_S8x32x16x128x16x1 (id (constant S_ .f32 0x3F800000#32))) l

/-- Their inverses. -/
def winvR (s : FVec Ideal S8x32x16x128x16x1 .f32) : FVec Ideal S8x32x16x128x16x1 .f32 :=
  select (cmpf .oge s (broadcastInDim S8x32x16x128x16x1 ![] bcast_S_S8x32x16x128x16x1 (constant S_ .f32 0x7F000000#32))) (broadcastInDim S8x32x16x128x16x1 ![] bcast_S_S8x32x16x128x16x1 (id (constant S_ .f32 0x00000000#32))) (Host.divf (broadcastInDim S8x32x16x128x16x1 ![] bcast_S_S8x32x16x128x16x1 (constant S_ .f32 0x3F800000#32)) s)

/-- The weights' codes. -/
def wcodeR (w : FVec Ideal S8x32x16x128x16x128 .f32) (i : FVec Ideal S8x32x16x128x16x1 .f32) : FVec Ideal S8x32x16x128x16x128 .f32 :=
  minimumf (broadcastInDim S8x32x16x128x16x128 ![] bcast_S_S8x32x16x128x16x128 (id (constant S_ .f32 0x43E00000#32))) (maximumf (broadcastInDim S8x32x16x128x16x128 ![] bcast_S_S8x32x16x128x16x128 (id (constant S_ .f32 0xC3E00000#32))) (mulf w (broadcastInDim S8x32x16x128x16x128 ![0, 1, 2, 3, 4, 5] bcast_S8x32x16x128x16x1_S8x32x16x128x16x128_0_1_2_3_4_5 i)))

/-- A key block's sum of value codes by weight codes: batch, head, key block, coordinate, query's block and row. -/
def mixesR (vc : FVec Ideal S8x16x128x32x128 .f32) (wc : FVec Ideal S8x32x16x128x16x128 .f32) : FVec Ideal S8x32x16x128x16x128 .f32 :=
  Host.dotGeneral dot_S8x16x128x32x128_S8x32x16x128x16x128_S8x32x16x128x16x128_2_5_4_23_031_014 none vc wc

/-- The same scaled, the query's axes first. -/
def scaledR (x : FVec Ideal S8x32x16x128x16x128 .f32) (ws : FVec Ideal S8x32x16x128x16x1 .f32) (vs : FVec Ideal S8x16x1x32x1 .f32) :
    FVec Ideal S8x32x16x128x16x128 .f32 :=
  mulf (transpose S8x32x16x128x16x128 [0, 1, 4, 5, 2, 3] x transposes_S8x32x16x128x16x128_S8x32x16x128x16x128_0_1_4_5_2_3) (broadcastInDim S8x32x16x128x16x128 ![0, 1, 2, 3, 4, 5] bcast_S8x32x16x128x16x1_S8x32x16x128x16x128_0_1_2_3_4_5 (mulf ws (broadcastInDim S8x32x16x128x16x1 ![0, 1, 2, 3, 4, 5] bcast_S8x32x1x1x16x1_S8x32x16x128x16x1_0_1_2_3_4_5 (broadcastInDim S8x32x1x1x16x1 ![0, 1, 4] bcast_S8x32x16_S8x32x1x1x16x1_0_1_4 (transpose S8x32x16 [0, 2, 1] (shapeCast _ vs shapeCasts_S8x16x1x32x1_S8x16x32) transposes_S8x16x32_S8x32x16_0_2_1)))))

/-- The sum over the key blocks. -/
def mixR (x : FVec Ideal S8x32x16x128x16x128 .f32) : FVec Ideal S8x32x16x128x128 .f32 :=
  Host.reduceAdd x (constant S_ .f32 0x00000000#32) reducesTo_S8x32x16x128x16x128_S8x32x16x128x128_d4 h_S_

/-- The sum of the weights. -/
def totalR (w : FVec Ideal S8x32x16x128x16x128 .f32) : FVec Ideal S8x32x16x128 .f32 :=
  Host.reduceAdd w (constant S_ .f32 0x00000000#32) reducesTo_S8x32x16x128x16x128_S8x32x16x128_d4_5 h_S_

/-- The attention, in the order of the tokens. -/
def outR (x : FVec Ideal S8x32x16x128x128 .f32) (z : FVec Ideal S8x32x16x128 .f32) : FVec Ideal S8x2048x4096 .bf16 :=
  truncf .bf16 (shapeCast _ (transpose S8x16x128x32x128 [0, 2, 3, 1, 4] (Host.divf x (broadcastInDim S8x32x16x128x128 ![0, 1, 2, 3, 4] bcast_S8x32x16x128x1_S8x32x16x128x128_0_1_2_3_4 (broadcastInDim S8x32x16x128x1 ![0, 1, 2, 3] bcast_S8x32x16x128_S8x32x16x128x1_0_1_2_3 z))) transposes_S8x32x16x128x128_S8x16x128x32x128_0_2_3_1_4) shapeCasts_S8x16x128x32x128_S8x2048x4096) bitsLt_bf16_f32

section Reads

variable (b : Fin 8) (h : Fin 32) (m : Fin 16) (q : Fin 128)

theorem dotsR_apply (qc kc : FVec Ideal S8x16x128x32x128 .f32) (n : Fin 16) (t : Fin 128) :
    dotsR qc kc (ix6 b h m q n t) = raw (fun d => qc (ix5 b m q h d)) (fun n t d => kc (ix5 b n t h d)) n t := by
  unfold dotsR raw
  pointwise
  refine Finset.sum_congr rfl fun d _ => ?_
  exact mul_comm _ _

theorem scoresR_apply (x : FVec Ideal S8x32x16x128x16x128 .f32) (qs ks : FVec Ideal S8x16x1x32x1 .f32) (n : Fin 16) (t : Fin 128) :
    scoresR x qs ks (ix6 b h m q n t) = x (ix6 b h m q n t) * coef (qs (ix5 b m 0 h 0)) (fun n => ks (ix5 b n 0 h 0)) n := by
  unfold scoresR coef
  pointwise
  exact mul_assoc _ _ _

theorem peakR_apply (s : FVec Ideal S8x32x16x128x16x128 .f32) :
    peakR s (ix4 b h m q) = Finset.univ.sup fun n : Fin 16 => Finset.univ.sup fun t : Fin 128 => s (ix6 b h m q n t) := by
  unfold peakR
  rw [Host.reduce_eq_fold]
  show (Finset.univ.filter _).fold max low _ = _
  rw [fold_max_eq_sup]
  have h0 := fun (i : S8x32x16x128x16x128.Idx) => reducesTo_S8x32x16x128x16x128_S8x32x16x128_d4_5.drop_apply_val_of_eq i 0 0
  have h1 := fun (i : S8x32x16x128x16x128.Idx) => reducesTo_S8x32x16x128x16x128_S8x32x16x128_d4_5.drop_apply_val_of_eq i 1 1
  have h2 := fun (i : S8x32x16x128x16x128.Idx) => reducesTo_S8x32x16x128x16x128_S8x32x16x128_d4_5.drop_apply_val_of_eq i 2 2
  have h3 := fun (i : S8x32x16x128x16x128.Idx) => reducesTo_S8x32x16x128x16x128_S8x32x16x128_d4_5.drop_apply_val_of_eq i 3 3
  apply le_antisymm
  · refine Finset.sup_le fun i hi => ?_
    have e := (Finset.mem_filter.mp hi).2
    have ei : i = ix6 b h m q (i 4) (i 5) := by
      funext k
      fin_cases k
      · exact Fin.ext ((h0 i).symm.trans (congrArg (fun j => (j 0).val) e))
      · exact Fin.ext ((h1 i).symm.trans (congrArg (fun j => (j 1).val) e))
      · exact Fin.ext ((h2 i).symm.trans (congrArg (fun j => (j 2).val) e))
      · exact Fin.ext ((h3 i).symm.trans (congrArg (fun j => (j 3).val) e))
      · rfl
      · rfl
    rw [ei]
    exact le_trans (Finset.le_sup (f := fun t => s (ix6 b h m q (i 4) t)) (Finset.mem_univ (i 5)))
      (Finset.le_sup (f := fun n => Finset.univ.sup fun t => s (ix6 b h m q n t)) (Finset.mem_univ (i 4)))
  · refine Finset.sup_le fun n _ => Finset.sup_le fun t _ => ?_
    refine Finset.le_sup (f := s) (b := ix6 b h m q n t) (Finset.mem_filter.mpr ⟨Finset.mem_univ _, ?_⟩)
    funext k
    fin_cases k
    · exact Fin.ext (h0 _)
    · exact Fin.ext (h1 _)
    · exact Fin.ext (h2 _)
    · exact Fin.ext (h3 _)

theorem weightsR_apply (s : FVec Ideal S8x32x16x128x16x128 .f32) (p : FVec Ideal S8x32x16x128 .f32) (n : Fin 16) (t : Fin 128) :
    weightsR s p (ix6 b h m q n t) = Ideal.exp (s (ix6 b h m q n t) - p (ix4 b h m q)) := by
  unfold weightsR; pointwise

theorem wtopR_apply (w : FVec Ideal S8x32x16x128x16x128 .f32) (n : Fin 16) :
    wtopR w (ix5 b h m q n) = Finset.univ.fold max low fun t : Fin 128 => max (w (ix6 b h m q n t)) (-(w (ix6 b h m q n t))) := by
  have hr : S8x32x16x128x16x128.Reduces [5] S8x32x16x128x16 := by decide
  have e : (Host.absf w ∘ hr.lift (ix5 b h m q n)) = fun t : Fin 128 => max (w (ix6 b h m q n t)) (-(w (ix6 b h m q n t))) := by
    funext t
    refine congrArg (Host.absf w) (a₂ := ix6 b h m q n t) (funext fun k => ?_)
    fin_cases k <;> rfl
  unfold wtopR
  refine (Host.reduce_eq_fold_single (FloatOps.maximumf (F := Ideal) (φ := .f32)) (Host.absf w) (constant S_ .f32 0xFF800000#32)
    reducesTo_S8x32x16x128x16x128_S8x32x16x128x16_d5 hr h_S_ (ix5 b h m q n)).trans ?_
  rw [e]
  rfl

theorem wsizeR_apply (a : FVec Ideal S8x32x16x128x16 .f32) (n : Fin 16) :
    wsizeR a (ix6 b h m q n 0) = a (ix5 b h m q n) * Ideal.ofBits .f32 0x3B124925#32 := by
  unfold wsizeR; pointwise

theorem waboveR_apply (p : FVec Ideal S253 .f32) (t : FVec Ideal S8x32x16x128x16x1 .f32) (n : Fin 16) (j : Fin 253) :
    waboveR p t (ix7 b h m q n 0 j) = Scalar.select (Ideal.cmp .ogt (p (ix1 j)) (t (ix6 b h m q n 0))) (p (ix1 j)) (Ideal.ofBits .f32 0x7F800000#32) := by
  unfold waboveR; pointwise; rfl

theorem wleastR_apply (v : FVec Ideal S8x32x16x128x16x1x253 .f32) (n : Fin 16) :
    wleastR v (ix6 b h m q n 0) = Finset.univ.fold min (Ideal.ofBits .f32 0x7F800000#32) fun j : Fin 253 => v (ix7 b h m q n 0 j) := by
  have hr : S8x32x16x128x16x1x253.Reduces [6] S8x32x16x128x16x1 := by decide
  have e : (v ∘ hr.lift (ix6 b h m q n 0)) = fun j : Fin 253 => v (ix7 b h m q n 0 j) := by
    funext j
    refine congrArg v (funext fun k => ?_)
    fin_cases k <;> rfl
  unfold wleastR
  refine (Host.reduce_eq_fold_single (FloatOps.minimumf (F := Ideal) (φ := .f32)) v (constant S_ .f32 0x7F800000#32)
    reducesTo_S8x32x16x128x16x1x253_S8x32x16x128x16x1_d6 hr h_S_ (ix6 b h m q n 0)).trans ?_
  rw [e]
  rfl

theorem wscaleR_of (t l : FVec Ideal S8x32x16x128x16x1 .f32) (i : S8x32x16x128x16x1.Idx) :
    wscaleR t l i = Scalar.select (IntOp.ori (Ideal.cmp .olt (t i) (Ideal.ofBits .f32 0x00800000#32))
      (Ideal.cmp .oeq (t i) (Ideal.ofBits .f32 0x7F800000#32))) (Ideal.ofBits .f32 0x3F800000#32) (l i) := rfl

theorem winvR_apply (s : FVec Ideal S8x32x16x128x16x1 .f32) (i : S8x32x16x128x16x1.Idx) : winvR s i = rinv (s i) := rfl

/-- The scale of a key block's weights from the largest of them. -/
theorem wscaleR_apply (a : FVec Ideal S8x32x16x128x16 .f32) (n : Fin 16) :
    wscaleR (wsizeR a) (wleastR (waboveR powersR (wsizeR a))) (ix6 b h m q n 0) = rscale (a (ix5 b h m q n)) := by
  unfold rscale
  rw [wscaleR_of, wleastR_apply]
  simp only [waboveR_apply, wsizeR_apply, powersR_apply]

theorem wcodeR_apply (w : FVec Ideal S8x32x16x128x16x128 .f32) (i : FVec Ideal S8x32x16x128x16x1 .f32) (n : Fin 16) (t : Fin 128) :
    wcodeR w i (ix6 b h m q n t) = clip1 (w (ix6 b h m q n t) * i (ix6 b h m q n 0)) := by
  unfold wcodeR clip1; pointwise; rfl

theorem mixesR_apply (vc : FVec Ideal S8x16x128x32x128 .f32) (wc : FVec Ideal S8x32x16x128x16x128 .f32) (n : Fin 16) (d : Fin 128) :
    mixesR vc wc (ix6 b h n d m q) = ∑ t : Fin 128, vc (ix5 b n t h d) * wc (ix6 b h m q n t) := by
  unfold mixesR
  pointwise

theorem scaledR_apply (x : FVec Ideal S8x32x16x128x16x128 .f32) (ws : FVec Ideal S8x32x16x128x16x1 .f32) (vs : FVec Ideal S8x16x1x32x1 .f32)
    (n : Fin 16) (d : Fin 128) :
    scaledR x ws vs (ix6 b h m q n d) = x (ix6 b h n d m q) * (ws (ix6 b h m q n 0) * vs (ix5 b n 0 h 0)) := by
  unfold scaledR
  pointwise

theorem mixR_apply (x : FVec Ideal S8x32x16x128x16x128 .f32) (d : Fin 128) :
    mixR x (ix5 b h m q d) = ∑ n : Fin 16, x (ix6 b h m q n d) := by
  have hr : S8x32x16x128x16x128.Reduces [4] S8x32x16x128x128 := by decide
  have e : ∀ n : Fin 16, hr.lift (ix5 b h m q d) n = ix6 b h m q n d := by
    intro n; funext k; fin_cases k <;> rfl
  unfold mixR
  refine (Ideal.hostReduceAdd_single reducesTo_S8x32x16x128x16x128_S8x32x16x128x128_d4 hr x (Ideal.ofBits .f32 0x00000000#32) (ix5 b h m q d)).trans ?_
  rw [show Ideal.ofBits .f32 0x00000000#32 = 0 from fl_zero, zero_add]
  exact Finset.sum_congr rfl fun n _ => congrArg x (e n)

theorem totalR_apply (w : FVec Ideal S8x32x16x128x16x128 .f32) :
    totalR w (ix4 b h m q) = ∑ n : Fin 16, ∑ t : Fin 128, w (ix6 b h m q n t) := by
  have e : totalR w (ix4 b h m q) = Ideal.hostReduceAdd reducesTo_S8x32x16x128x16x128_S8x32x16x128_d4_5 w (Ideal.ofBits .f32 0x00000000#32) (ix4 b h m q) := rfl
  rw [e]
  unfold Ideal.hostReduceAdd
  rw [show Ideal.ofBits .f32 0x00000000#32 = 0 from fl_zero, zero_add, ← Finset.sum_product']
  have h0 := fun (i : S8x32x16x128x16x128.Idx) => reducesTo_S8x32x16x128x16x128_S8x32x16x128_d4_5.drop_apply_val_of_eq i 0 0
  have h1 := fun (i : S8x32x16x128x16x128.Idx) => reducesTo_S8x32x16x128x16x128_S8x32x16x128_d4_5.drop_apply_val_of_eq i 1 1
  have h2 := fun (i : S8x32x16x128x16x128.Idx) => reducesTo_S8x32x16x128x16x128_S8x32x16x128_d4_5.drop_apply_val_of_eq i 2 2
  have h3 := fun (i : S8x32x16x128x16x128.Idx) => reducesTo_S8x32x16x128x16x128_S8x32x16x128_d4_5.drop_apply_val_of_eq i 3 3
  have hi : ∀ i : S8x32x16x128x16x128.Idx, reducesTo_S8x32x16x128x16x128_S8x32x16x128_d4_5.drop i = ix4 b h m q → i = ix6 b h m q (i 4) (i 5) := by
    intro i e
    funext k
    fin_cases k
    · exact Fin.ext ((h0 i).symm.trans (congrArg (fun j => (j 0).val) e))
    · exact Fin.ext ((h1 i).symm.trans (congrArg (fun j => (j 1).val) e))
    · exact Fin.ext ((h2 i).symm.trans (congrArg (fun j => (j 2).val) e))
    · exact Fin.ext ((h3 i).symm.trans (congrArg (fun j => (j 3).val) e))
    · rfl
    · rfl
  refine Finset.sum_bij' (fun (i : S8x32x16x128x16x128.Idx) _ => ((i 4, i 5) : Fin 16 × Fin 128)) (fun p _ => ix6 b h m q p.1 p.2)
    (fun _ _ => Finset.mem_product.mpr ⟨Finset.mem_univ _, Finset.mem_univ _⟩) (fun p _ => ?_) (fun i e => ?_) (fun p _ => rfl) (fun i e => ?_)
  · refine Finset.mem_filter.mpr ⟨Finset.mem_univ _, ?_⟩
    funext k
    fin_cases k
    · exact Fin.ext (h0 _)
    · exact Fin.ext (h1 _)
    · exact Fin.ext (h2 _)
    · exact Fin.ext (h3 _)
  · exact (hi i (Finset.mem_filter.mp e).2).symm
  · exact congrArg w (hi i (Finset.mem_filter.mp e).2)

theorem outR_apply (x : FVec Ideal S8x32x16x128x128 .f32) (z : FVec Ideal S8x32x16x128 .f32) (d : Fin 128) :
    outR x z (ix3 b ⟨m.val * 128 + q.val, by omega⟩ ⟨h.val * 128 + d.val, by omega⟩) = Ideal.div (x (ix5 b h m q d)) (z (ix4 b h m q)) := by
  unfold outR
  pointwise

end Reads

/-! ### The attention from codes and scales -/

section Attention

variable (qc kc vc : FVec Ideal S8x16x128x32x128 .f32) (qs ks vs : FVec Ideal S8x16x1x32x1 .f32)

/-- The scores of the codes. -/
def attnScores : FVec Ideal S8x32x16x128x16x128 .f32 := scoresR (dotsR qc kc) qs ks

/-- Their weights. -/
def attnWeights : FVec Ideal S8x32x16x128x16x128 .f32 := weightsR (attnScores qc kc qs ks) (peakR (attnScores qc kc qs ks))

/-- The sizes of the key blocks' weights. -/
def attnSizes : FVec Ideal S8x32x16x128x16x1 .f32 := wsizeR (wtopR (attnWeights qc kc qs ks))

/-- The scales of the key blocks' weights. -/
def attnScales : FVec Ideal S8x32x16x128x16x1 .f32 :=
  wscaleR (attnSizes qc kc qs ks) (wleastR (waboveR powersR (attnSizes qc kc qs ks)))

/-- The attention. -/
def attnR : FVec Ideal S8x2048x4096 .bf16 :=
  outR (mixR (scaledR (mixesR vc (wcodeR (attnWeights qc kc qs ks) (winvR (attnScales qc kc qs ks)))) (attnScales qc kc qs ks) vs))
    (totalR (attnWeights qc kc qs ks))

variable (b : Fin 8) (h : Fin 32) (m : Fin 16) (q : Fin 128)

/-- A query's codes. -/
def rowR (d : Fin 128) : EReal := qc (ix5 b m q h d)

/-- A head's codes by block. -/
def blkR (kc : FVec Ideal S8x16x128x32x128 .f32) (n : Fin 16) (t d : Fin 128) : EReal := kc (ix5 b n t h d)

/-- A block's scale. -/
def sclR (ks : FVec Ideal S8x16x1x32x1 .f32) (n : Fin 16) : EReal := ks (ix5 b n 0 h 0)

/-- A maximum over a block times a factor that is not negative is the maximum of the products. -/
theorem sup_mul {n : ℕ} (f : Fin (n + 1) → EReal) {c : EReal} (hc : 0 ≤ c) : (Finset.univ.sup f) * c = Finset.univ.sup fun t => f t * c := by
  apply le_antisymm
  · obtain ⟨i, -, e⟩ := Finset.exists_mem_eq_sup Finset.univ ⟨0, Finset.mem_univ _⟩ f
    rw [e]
    exact Finset.le_sup (f := fun t => f t * c) (Finset.mem_univ i)
  · refine Finset.sup_le fun t _ => ?_
    exact mul_le_mul_of_nonneg_right (Finset.le_sup (Finset.mem_univ t)) hc

theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

theorem abs_exp (x : EReal) : max (Ideal.exp x) (-(Ideal.exp x)) = Ideal.exp x := by
  apply max_eq_left
  have h0 := exp_nonneg x
  exact le_trans (by simpa using EReal.neg_le_neg_iff.mpr h0) h0

theorem attnScores_apply (n : Fin 16) (t : Fin 128) : attnScores qc kc qs ks (ix6 b h m q n t)
    = raw (rowR qc b h m q) (blkR b h kc) n t * coef (sclR b h qs m) (sclR b h ks) n := by
  unfold attnScores
  rw [scoresR_apply, dotsR_apply]
  rfl

variable (hs : ∀ n, 0 ≤ coef (sclR b h qs m) (sclR b h ks) n)

include hs

theorem attnPeak_apply : peakR (attnScores qc kc qs ks) (ix4 b h m q)
    = peak (rowR qc b h m q) (sclR b h qs m) (blkR b h kc) (sclR b h ks) := by
  rw [peakR_apply]
  unfold peak
  simp only [fold_max_eq_sup, attnScores_apply]
  refine Finset.sup_congr rfl fun n _ => ?_
  exact (sup_mul _ (hs n)).symm

theorem attnWeights_apply (n : Fin 16) (t : Fin 128) : attnWeights qc kc qs ks (ix6 b h m q n t)
    = weight (rowR qc b h m q) (sclR b h qs m) (blkR b h kc) (sclR b h ks) n t := by
  unfold attnWeights weight
  rw [weightsR_apply, attnPeak_apply qc kc qs ks b h m q hs, attnScores_apply]

theorem attnTop_apply (n : Fin 16) : wtopR (attnWeights qc kc qs ks) (ix5 b h m q n)
    = wtop (rowR qc b h m q) (sclR b h qs m) (blkR b h kc) (sclR b h ks) n := by
  rw [wtopR_apply]
  simp only [attnWeights_apply qc kc qs ks b h m q hs]
  unfold wtop weight
  simp only [abs_exp]

theorem wtop_nonneg (n : Fin 16) : 0 ≤ wtop (rowR qc b h m q) (sclR b h qs m) (blkR b h kc) (sclR b h ks) n := by
  unfold wtop
  rw [fold_max_eq_sup]
  exact le_trans (exp_nonneg _) (Finset.le_sup (f := fun t => weight (rowR qc b h m q) (sclR b h qs m) (blkR b h kc) (sclR b h ks) n t) (Finset.mem_univ 0))

theorem attnScales_apply (n : Fin 16) : attnScales qc kc qs ks (ix6 b h m q n 0)
    = rscale (wtop (rowR qc b h m q) (sclR b h qs m) (blkR b h kc) (sclR b h ks) n) := by
  unfold attnScales attnSizes
  rw [wscaleR_apply, attnTop_apply qc kc qs ks b h m q hs]

/-- The attention at a token and a coordinate of a head. -/
theorem attnR_apply (d : Fin 128) : attnR qc kc vc qs ks vs (ix3 b ⟨m.val * 128 + q.val, by omega⟩ ⟨h.val * 128 + d.val, by omega⟩)
    = out (rowR qc b h m q) (sclR b h qs m) (blkR b h kc) (blkR b h vc) (sclR b h ks) (sclR b h vs) d := by
  unfold attnR out
  rw [outR_apply, mixR_apply, totalR_apply]
  congr 1
  · unfold mix
    refine Finset.sum_congr rfl fun n _ => ?_
    rw [scaledR_apply, mixesR_apply, attnScales_apply qc kc qs ks b h m q hs, rscale_eq (wtop_nonneg qc kc qs ks b h m q hs n)]
    congr 1
    refine Finset.sum_congr rfl fun t _ => ?_
    rw [wcodeR_apply, winvR_apply, attnWeights_apply qc kc qs ks b h m q hs, attnScales_apply qc kc qs ks b h m q hs,
      rinv_eq (wtop_nonneg qc kc qs ks b h m q hs n)]
    rfl
  · unfold total
    simp only [attnWeights_apply qc kc qs ks b h m q hs]

end Attention

end Cert.ReferenceIdeal.Hand

end
-- ==== Proof.RefRun.lean ====
module

public import proofs.«01_k».proof.Proof.Gen.ReferenceIdeal.Run
public import proofs.«01_k».proof.Proof.RefAttn
public import proofs.«01_k».proof.Proof.Whole
public import Idealize.ShloMosaic.Lib.Quiescent

@[expose] public section

set_option maxRecDepth 16384

noncomputable section

namespace Cert.ReferenceIdeal.Hand

open Cert.ReferenceIdeal Cert.ReferenceIdeal.Gen Cert.Scale Cert.Spec
open Idealize.ShloMosaic Idealize.ShloMosaic.TcCoe

open Cert.ReferenceIdeal.Value
open StableHlo

/-! The results of the reference's run are the stages of the other modules. -/

variable (V0 : Valuation τ sig (Elt Ideal))

theorem size_q : res_main_v6 V0 = sizeR (amaxR (res_main_v1 V0)) := rfl
theorem size_k : res_main_v40 V0 = sizeR (amaxR (res_main_v35 V0)) := rfl
theorem size_v : res_main_v74 V0 = sizeR (amaxR (res_main_v69 V0)) := rfl
theorem powers_q : res_main_v12 V0 = powersR := rfl
theorem powers_k : res_main_v46 V0 = powersR := rfl
theorem powers_v : res_main_v80 V0 = powersR := rfl
theorem powers_w : res_main_v134 V0 = powersR := rfl

theorem scales_q : res_main_v25 V0 = scalesR (res_main_v1 V0) := by
  unfold scalesR; rw [← size_q, ← powers_q V0]; rfl
theorem scales_k : res_main_v59 V0 = scalesR (res_main_v35 V0) := by
  unfold scalesR; rw [← size_k, ← powers_k V0]; rfl
theorem scales_v : res_main_v93 V0 = scalesR (res_main_v69 V0) := by
  unfold scalesR; rw [← size_v, ← powers_v V0]; rfl

theorem codes_q : res_main_v33 V0 = codesR (res_main_v1 V0) := by
  unfold codesR; rw [← scales_q]; rfl
theorem codes_k : res_main_v67 V0 = codesR (res_main_v35 V0) := by
  unfold codesR; rw [← scales_k]; rfl
theorem codes_v : res_main_v101 V0 = codesR (res_main_v69 V0) := by
  unfold codesR; rw [← scales_v]; rfl

theorem scores_eq : res_main_v117 V0 = attnScores (res_main_v33 V0) (res_main_v67 V0) (res_main_v25 V0) (res_main_v59 V0) := rfl

theorem weights_eq : res_main_v122 V0 = attnWeights (res_main_v33 V0) (res_main_v67 V0) (res_main_v25 V0) (res_main_v59 V0) := by
  unfold attnWeights; rw [← scores_eq]; rfl

theorem sizes_eq : res_main_v128 V0 = attnSizes (res_main_v33 V0) (res_main_v67 V0) (res_main_v25 V0) (res_main_v59 V0) := by
  unfold attnSizes; rw [← weights_eq]; rfl

theorem wscales_eq : res_main_v147 V0 = attnScales (res_main_v33 V0) (res_main_v67 V0) (res_main_v25 V0) (res_main_v59 V0) := by
  unfold attnScales; rw [← sizes_eq, ← powers_w V0]; rfl

/-! ## The results in closed form -/

/-- An argument as the reference splits it: batch, block, token of the block, head, coordinate. -/
def splitR (x : FVec Ideal S8x2048x4096 .bf16) : FVec Ideal S8x16x128x32x128 .f32 :=
  shapeCast _ (extf .f32 x bitsLt_bf16_f32) shapeCasts_S8x2048x4096_S8x16x128x32x128

theorem splitR_apply (x : FVec Ideal S8x2048x4096 .bf16) (b : Fin 8) (h : Fin 32) : headR (splitR x) b h = tok x b h := by
  funext n r d
  unfold headR splitR tok
  pointwise

/-- The codes in the arguments' layout. -/
def flatR (y : FVec Ideal S8x16x128x32x128 .f32) : FVec Ideal S8x2048x4096 .fp8e4m3 :=
  Host.convertf .fp8e4m3 (shapeCast _ y shapeCasts_S8x16x128x32x128_S8x2048x4096)

theorem flatR_apply (y : FVec Ideal S8x16x128x32x128 .f32) (b : Fin 8) (n : Fin 16) (r : Fin 128) (h : Fin 32) (d : Fin 128) :
    flatR y (ix3 b ⟨n.val * 128 + r.val, by omega⟩ ⟨h.val * 128 + d.val, by omega⟩) = y (ix5 b n r h d) := by
  unfold flatR
  pointwise

/-- The scales without the axes of length one. -/
def tableR (s : FVec Ideal S8x16x1x32x1 .f32) : FVec Ideal S8x16x32 .f32 := shapeCast _ s shapeCasts_S8x16x1x32x1_S8x16x32

theorem tableR_apply (s : FVec Ideal S8x16x1x32x1 .f32) (b : Fin 8) (n : Fin 16) (h : Fin 32) :
    tableR s (ix3 b n h) = s (ix5 b n 0 h 0) := by
  unfold tableR
  pointwise

/-- The reference's codes. -/
theorem flatR_codes (x : FVec Ideal S8x2048x4096 .bf16) : flatR (codesR (splitR x)) = codesArr x := by
  refine tokens_ext fun b n r h d => ?_
  rw [flatR_apply, codesR_apply, splitR_apply, codesArr_ix]

/-- Its scales. -/
theorem tableR_scales (x : FVec Ideal S8x2048x4096 .bf16) : tableR (scalesR (splitR x)) = scalesArr x := by
  refine blocks_ext fun b n h => ?_
  rw [tableR_apply, scalesR_apply, splitR_apply]
  rfl

/-- Its attention. -/
theorem attnR_codes (xq xk xv : FVec Ideal S8x2048x4096 .bf16) :
    attnR (codesR (splitR xq)) (codesR (splitR xk)) (codesR (splitR xv)) (scalesR (splitR xq)) (scalesR (splitR xk)) (scalesR (splitR xv))
      = attentionArr xq xk xv := by
  have row : ∀ x b h m q, rowR (codesR (splitR x)) b h m q = code (tok x b h) m q := by
    intro x b h m q; funext d; unfold rowR; rw [codesR_apply, splitR_apply]
  have blk : ∀ x b h, blkR b h (codesR (splitR x)) = code (tok x b h) := by
    intro x b h; funext n t d; unfold blkR; rw [codesR_apply, splitR_apply]
  have scl : ∀ x b h, sclR b h (scalesR (splitR x)) = scale (tok x b h) := by
    intro x b h; funext n; unfold sclR; rw [scalesR_apply, splitR_apply]
  refine tokens_ext fun b n r h d => ?_
  rw [attnR_apply]
  · rw [row, blk, blk, scl, scl, scl, attentionArr_ix]
  · intro n
    rw [scl, scl]
    exact coef_nonneg (scale_nonneg _ _) (scale_nonneg _) n

/-! ## The arguments, split -/

theorem split_q : res_main_v1 V0 = splitR (V0 (Proc.devRef .tc main_arg0)) := rfl
theorem split_k : res_main_v35 V0 = splitR (V0 (Proc.devRef .tc main_arg1)) := rfl
theorem split_v : res_main_v69 V0 = splitR (V0 (Proc.devRef .tc main_arg2)) := rfl

/-- The codes of the three arguments, as returned. -/
theorem codes_q_arr : flatR (res_main_v33 V0) = codesArr (V0 (Proc.devRef .tc main_arg0)) := by rw [codes_q, split_q, flatR_codes]
theorem codes_k_arr : flatR (res_main_v67 V0) = codesArr (V0 (Proc.devRef .tc main_arg1)) := by rw [codes_k, split_k, flatR_codes]
theorem codes_v_arr : flatR (res_main_v101 V0) = codesArr (V0 (Proc.devRef .tc main_arg2)) := by rw [codes_v, split_v, flatR_codes]

/-- Their scales, as returned. -/
theorem scales_q_arr : tableR (res_main_v25 V0) = scalesArr (V0 (Proc.devRef .tc main_arg0)) := by rw [scales_q, split_q, tableR_scales]
theorem scales_k_arr : tableR (res_main_v59 V0) = scalesArr (V0 (Proc.devRef .tc main_arg1)) := by rw [scales_k, split_k, tableR_scales]
theorem scales_v_arr : tableR (res_main_v93 V0) = scalesArr (V0 (Proc.devRef .tc main_arg2)) := by rw [scales_v, split_v, tableR_scales]

/-- The attention, as returned. -/
theorem attn_arr : outR (mixR (scaledR (mixesR (res_main_v101 V0) (wcodeR (res_main_v122 V0) (winvR (res_main_v147 V0)))) (res_main_v147 V0) (res_main_v93 V0)))
      (totalR (res_main_v122 V0))
    = attentionArr (V0 (Proc.devRef .tc main_arg0)) (V0 (Proc.devRef .tc main_arg1)) (V0 (Proc.devRef .tc main_arg2)) := by
  rw [weights_eq, wscales_eq, codes_q, codes_k, codes_v, scales_q, scales_k, scales_v, split_q, split_k, split_v]
  exact attnR_codes _ _ _

/-! ## The run -/

/-- The reference ends with the attention, the codes and the scales of its arguments, and the arguments unchanged. -/
theorem run_closed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v168) = attentionArr (m ((c.tc : Thread nD τ).loc main_arg0)) (m ((c.tc : Thread nD τ).loc main_arg1)) (m ((c.tc : Thread nD τ).loc main_arg2))
      ∧ r.2.mem ((c.tc : Thread nD τ).loc main_v170) = codesArr (m ((c.tc : Thread nD τ).loc main_arg0))
      ∧ r.2.mem ((c.tc : Thread nD τ).loc main_v102) = scalesArr (m ((c.tc : Thread nD τ).loc main_arg0))
      ∧ r.2.mem ((c.tc : Thread nD τ).loc main_v172) = codesArr (m ((c.tc : Thread nD τ).loc main_arg1))
      ∧ r.2.mem ((c.tc : Thread nD τ).loc main_v103) = scalesArr (m ((c.tc : Thread nD τ).loc main_arg1))
      ∧ r.2.mem ((c.tc : Thread nD τ).loc main_v174) = codesArr (m ((c.tc : Thread nD τ).loc main_arg2))
      ∧ r.2.mem ((c.tc : Thread nD τ).loc main_v104) = scalesArr (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Value.run m ρ)
  have e := h c
  exact ⟨e.1.trans (attn_arr (launchContents m c)), e.2.1.trans (codes_q_arr (launchContents m c)), e.2.2.1.trans (scales_q_arr (launchContents m c)),
    e.2.2.2.1.trans (codes_k_arr (launchContents m c)), e.2.2.2.2.1.trans (scales_k_arr (launchContents m c)),
    e.2.2.2.2.2.1.trans (codes_v_arr (launchContents m c)), e.2.2.2.2.2.2.1.trans (scales_v_arr (launchContents m c)), e.2.2.2.2.2.2.2⟩

/-- The reference runs, its arguments end unchanged and every semaphore at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2.2.2.2, sem_eq_zero_of_no_sems (by decide) r.2⟩) (run_closed m ρ)

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Printed
public import proofs.«01_k».proof.Proof.Body
public import proofs.«01_k».proof.Proof.Arrays
public import proofs.«01_k».proof.Proof.RefRun

@[expose] public section

noncomputable section

namespace Cert.Proof

open Idealize.ShloMosaic Idealize.SL.Sem
open Cert.Spec Cert.KernelIdeal.Hand

/-- `kernel` runs, its arguments end unchanged and every semaphore at zero. -/
theorem kernel_quiescent : Cert.quiescent_Kernel := Cert.Printed.quiescent

/-- The same of the idealized `kernel`. -/
theorem ideal_quiescent : Cert.quiescent_KernelIdeal := fun m ρ _ => Cert.KernelIdeal.Hand.frame m ρ

/-- The same of the idealized `reference`. -/
theorem reference_quiescent : Cert.quiescent_ReferenceIdeal := fun m ρ _ => Cert.ReferenceIdeal.Hand.frame m ρ

/-- The idealized `kernel` is `kernel` with no operation rewritten. -/
theorem preserves : Cert.preserves_Kernel_KernelIdeal := trivial

/-- At exact arithmetic the kernel and the reference end with equal results: the attention, the codes and the scales. -/
theorem algebraic : Cert.algebraic_KernelIdeal_ReferenceIdeal := by
  intro m ρ m' ρ' _ hag
  refine ⟨fun c => attentionArr (argQ m c) (argK m c) (argV m c), fun c => codesArr (argQ m c), fun c => scalesArr (argQ m c),
    fun c => codesArr (argK m c), fun c => scalesArr (argK m c), fun c => codesArr (argV m c), fun c => scalesArr (argV m c), ?_, ?_⟩
  · refine (θ_run Cert.KernelIdeal.defs _ _).mono (fun _ h c => ?_) (θ_run_and (run_main m ρ) (Cert.KernelIdeal.Hand.frame m ρ))
    exact ⟨((h.1.1 c).1 3).trans (final3 m c), ((h.1.1 c).1 4).trans (final4 m c), ((h.1.1 c).1 5).trans (final5 m c),
      ((h.1.1 c).1 6).trans (final6 m c), ((h.1.1 c).1 7).trans (final7 m c), ((h.1.1 c).1 8).trans (final8 m c),
      ((h.1.1 c).1 9).trans (final9 m c), h.2.1 c⟩
  · refine (θ_run Cert.ReferenceIdeal.defs _ _).mono (fun _ h c => ?_) (Cert.ReferenceIdeal.Hand.run_closed m' ρ')
    obtain ⟨h0, h1, h2, h3, h4, h5, h6, ha⟩ := h c
    obtain ⟨eq, ek, ev⟩ := hag c
    refine ⟨h0.trans ?_, h1.trans ?_, h2.trans ?_, h3.trans ?_, h4.trans ?_, h5.trans ?_, h6.trans ?_, ha⟩
    · rw [eq, ek, ev]; rfl
    · rw [eq]; rfl
    · rw [eq]; rfl
    · rw [ek]; rfl
    · rw [ek]; rfl
    · rw [ev]; rfl
    · rw [ev]; rfl

/-- Everything the certificate claims. -/
theorem claim : Cert.Claim :=
  ⟨Cert.Kernel.Gen.facts, Cert.KernelIdeal.Gen.facts, Cert.ReferenceIdeal.Gen.facts,
    kernel_quiescent, ideal_quiescent, reference_quiescent, preserves, algebraic⟩

end Cert.Proof

end
